-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2000000 : Shape := ⟨1, ![2000000]⟩
abbrev S_ : Shape := ⟨0, ![]⟩
abbrev S97152 : Shape := ⟨1, ![97152]⟩
abbrev S2097152 : Shape := ⟨1, ![2097152]⟩
abbrev S2097152x1 : Shape := ⟨2, ![2097152, 1]⟩
abbrev S1 : Shape := ⟨1, ![1]⟩
abbrev S1x1 : Shape := ⟨2, ![1, 1]⟩
abbrev S16384x128 : Shape := ⟨2, ![16384, 128]⟩
abbrev S128x128 : Shape := ⟨2, ![128, 128]⟩
abbrev S4 : Shape := ⟨1, ![4]⟩
abbrev S1x128x128 : Shape := ⟨3, ![1, 128, 128]⟩
abbrev S1x1x1 : Shape := ⟨3, ![1, 1, 1]⟩

abbrev nBuf : Space → Nat
  | .hbm => 112
  | .vmem => 8
  | .smem => 2
  | _ => 0

abbrev bufTy : (tb : Table) → Fin (tcTables nBuf tb) → BufTy
  | .hbm, ⟨0, _⟩ => ⟨S2000000, .f32⟩
  | .hbm, ⟨1, _⟩ => ⟨S2000000, .f32⟩
  | .hbm, ⟨2, _⟩ => ⟨S2000000, .f32⟩
  | .hbm, ⟨3, _⟩ => ⟨S2000000, .i32⟩
  | .hbm, ⟨4, _⟩ => ⟨S2000000, .i32⟩
  | .hbm, ⟨5, _⟩ => ⟨S2000000, .i32⟩
  | .hbm, ⟨6, _⟩ => ⟨S2000000, .f32⟩
  | .hbm, ⟨7, _⟩ => ⟨S2000000, .i32⟩
  | .hbm, ⟨8, _⟩ => ⟨S2000000, .i32⟩
  | .hbm, ⟨9, _⟩ => ⟨S2000000, .i32⟩
  | .hbm, ⟨10, _⟩ => ⟨S2000000, .i32⟩
  | .hbm, ⟨11, _⟩ => ⟨S2000000, .i32⟩
  | .hbm, ⟨12, _⟩ => ⟨S2000000, .i32⟩
  | .hbm, ⟨13, _⟩ => ⟨S_, .i32⟩
  | .hbm, ⟨14, _⟩ => ⟨S97152, .i32⟩
  | .hbm, ⟨15, _⟩ => ⟨S2097152, .i32⟩
  | .hbm, ⟨16, _⟩ => ⟨S_, .i32⟩
  | .hbm, ⟨17, _⟩ => ⟨S97152, .i32⟩
  | .hbm, ⟨18, _⟩ => ⟨S2097152, .i32⟩
  | .hbm, ⟨19, _⟩ => ⟨S_, .i32⟩
  | .hbm, ⟨20, _⟩ => ⟨S2097152, .i32⟩
  | .hbm, ⟨21, _⟩ => ⟨S2097152, .i1⟩
  | .hbm, ⟨22, _⟩ => ⟨S_, .i32⟩
  | .hbm, ⟨23, _⟩ => ⟨S2097152, .i32⟩
  | .hbm, ⟨24, _⟩ => ⟨S2097152, .i32⟩
  | .hbm, ⟨25, _⟩ => ⟨S2097152, .i32⟩
  | .hbm, ⟨26, _⟩ => ⟨S2097152x1, .i32⟩
  | .hbm, ⟨27, _⟩ => ⟨S1, .i32⟩
  | .hbm, ⟨28, _⟩ => ⟨S_, .i32⟩
  | .hbm, ⟨29, _⟩ => ⟨S2097152x1, .i32⟩
  | .hbm, ⟨30, _⟩ => ⟨S2097152x1, .i1⟩
  | .hbm, ⟨31, _⟩ => ⟨S1x1, .i32⟩
  | .hbm, ⟨32, _⟩ => ⟨S2097152x1, .i32⟩
  | .hbm, ⟨33, _⟩ => ⟨S2097152x1, .i1⟩
  | .hbm, ⟨34, _⟩ => ⟨S2097152x1, .i1⟩
  | .hbm, ⟨35, _⟩ => ⟨S_, .i1⟩
  | .hbm, ⟨36, _⟩ => ⟨S2097152, .i1⟩
  | .hbm, ⟨37, _⟩ => ⟨S2097152, .f32⟩
  | .hbm, ⟨38, _⟩ => ⟨S_, .f32⟩
  | .hbm, ⟨39, _⟩ => ⟨S2097152, .f32⟩
  | .hbm, ⟨40, _⟩ => ⟨S2097152, .f32⟩
  | .hbm, ⟨41, _⟩ => ⟨S_, .i32⟩
  | .hbm, ⟨42, _⟩ => ⟨S2097152, .i32⟩
  | .hbm, ⟨43, _⟩ => ⟨S2097152, .i1⟩
  | .hbm, ⟨44, _⟩ => ⟨S_, .i32⟩
  | .hbm, ⟨45, _⟩ => ⟨S2097152, .i32⟩
  | .hbm, ⟨46, _⟩ => ⟨S2097152, .i32⟩
  | .hbm, ⟨47, _⟩ => ⟨S2097152, .i32⟩
  | .hbm, ⟨48, _⟩ => ⟨S2097152x1, .i32⟩
  | .hbm, ⟨49, _⟩ => ⟨S1, .i32⟩
  | .hbm, ⟨50, _⟩ => ⟨S_, .i32⟩
  | .hbm, ⟨51, _⟩ => ⟨S2097152x1, .i32⟩
  | .hbm, ⟨52, _⟩ => ⟨S2097152x1, .i1⟩
  | .hbm, ⟨53, _⟩ => ⟨S1x1, .i32⟩
  | .hbm, ⟨54, _⟩ => ⟨S2097152x1, .i32⟩
  | .hbm, ⟨55, _⟩ => ⟨S2097152x1, .i1⟩
  | .hbm, ⟨56, _⟩ => ⟨S2097152x1, .i1⟩
  | .hbm, ⟨57, _⟩ => ⟨S_, .i1⟩
  | .hbm, ⟨58, _⟩ => ⟨S2097152, .i1⟩
  | .hbm, ⟨59, _⟩ => ⟨S2097152, .f32⟩
  | .hbm, ⟨60, _⟩ => ⟨S_, .f32⟩
  | .hbm, ⟨61, _⟩ => ⟨S2097152, .f32⟩
  | .hbm, ⟨62, _⟩ => ⟨S2097152, .f32⟩
  | .hbm, ⟨63, _⟩ => ⟨S_, .i32⟩
  | .hbm, ⟨64, _⟩ => ⟨S2097152, .i32⟩
  | .hbm, ⟨65, _⟩ => ⟨S2097152, .i1⟩
  | .hbm, ⟨66, _⟩ => ⟨S_, .i32⟩
  | .hbm, ⟨67, _⟩ => ⟨S2097152, .i32⟩
  | .hbm, ⟨68, _⟩ => ⟨S2097152, .i32⟩
  | .hbm, ⟨69, _⟩ => ⟨S2097152, .i32⟩
  | .hbm, ⟨70, _⟩ => ⟨S2097152x1, .i32⟩
  | .hbm, ⟨71, _⟩ => ⟨S1, .i32⟩
  | .hbm, ⟨72, _⟩ => ⟨S_, .i32⟩
  | .hbm, ⟨73, _⟩ => ⟨S2097152x1, .i32⟩
  | .hbm, ⟨74, _⟩ => ⟨S2097152x1, .i1⟩
  | .hbm, ⟨75, _⟩ => ⟨S1x1, .i32⟩
  | .hbm, ⟨76, _⟩ => ⟨S2097152x1, .i32⟩
  | .hbm, ⟨77, _⟩ => ⟨S2097152x1, .i1⟩
  | .hbm, ⟨78, _⟩ => ⟨S2097152x1, .i1⟩
  | .hbm, ⟨79, _⟩ => ⟨S_, .i1⟩
  | .hbm, ⟨80, _⟩ => ⟨S2097152, .i1⟩
  | .hbm, ⟨81, _⟩ => ⟨S2097152, .f32⟩
  | .hbm, ⟨82, _⟩ => ⟨S_, .f32⟩
  | .hbm, ⟨83, _⟩ => ⟨S2097152, .f32⟩
  | .hbm, ⟨84, _⟩ => ⟨S2097152, .f32⟩
  | .hbm, ⟨85, _⟩ => ⟨S_, .i32⟩
  | .hbm, ⟨86, _⟩ => ⟨S2097152, .i32⟩
  | .hbm, ⟨87, _⟩ => ⟨S2097152, .i1⟩
  | .hbm, ⟨88, _⟩ => ⟨S_, .i32⟩
  | .hbm, ⟨89, _⟩ => ⟨S2097152, .i32⟩
  | .hbm, ⟨90, _⟩ => ⟨S2097152, .i32⟩
  | .hbm, ⟨91, _⟩ => ⟨S2097152, .i32⟩
  | .hbm, ⟨92, _⟩ => ⟨S2097152x1, .i32⟩
  | .hbm, ⟨93, _⟩ => ⟨S1, .i32⟩
  | .hbm, ⟨94, _⟩ => ⟨S_, .i32⟩
  | .hbm, ⟨95, _⟩ => ⟨S2097152x1, .i32⟩
  | .hbm, ⟨96, _⟩ => ⟨S2097152x1, .i1⟩
  | .hbm, ⟨97, _⟩ => ⟨S1x1, .i32⟩
  | .hbm, ⟨98, _⟩ => ⟨S2097152x1, .i32⟩
  | .hbm, ⟨99, _⟩ => ⟨S2097152x1, .i1⟩
  | .hbm, ⟨100, _⟩ => ⟨S2097152x1, .i1⟩
  | .hbm, ⟨101, _⟩ => ⟨S_, .i1⟩
  | .hbm, ⟨102, _⟩ => ⟨S2097152, .i1⟩
  | .hbm, ⟨103, _⟩ => ⟨S2097152, .f32⟩
  | .hbm, ⟨104, _⟩ => ⟨S_, .f32⟩
  | .hbm, ⟨105, _⟩ => ⟨S2097152, .f32⟩
  | .hbm, ⟨106, _⟩ => ⟨S2097152, .f32⟩
  | .hbm, ⟨107, _⟩ => ⟨S16384x128, .f32⟩
  | .hbm, ⟨108, _⟩ => ⟨S16384x128, .f32⟩
  | .hbm, ⟨109, _⟩ => ⟨S16384x128, .f32⟩
  | .hbm, ⟨110, _⟩ => ⟨S16384x128, .f32⟩
  | .hbm, ⟨111, _⟩ => ⟨S1x1, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .smem, ⟨0, _⟩ => ⟨S1x1, .f32⟩
  | .local _ .smem, ⟨1, _⟩ => ⟨S4, .f32⟩
  | _, _ => ⟨S2000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1_0 : Ref sig .tc := ⟨.hbm, 5, rfl⟩
abbrev main_call0_v1_1 : Ref sig .tc := ⟨.hbm, 6, rfl⟩
abbrev main_v0 : Ref sig .tc := ⟨.hbm, 7, rfl⟩
abbrev main_v1 : Ref sig .tc := ⟨.hbm, 8, rfl⟩
abbrev main_call1_v0 : Ref sig .tc := ⟨.hbm, 9, rfl⟩
abbrev main_call1_v1_0 : Ref sig .tc := ⟨.hbm, 10, rfl⟩
abbrev main_call1_v1_1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_call2_c : Ref sig .tc := ⟨.hbm, 19, rfl⟩
abbrev main_call2_v0 : Ref sig .tc := ⟨.hbm, 20, rfl⟩
abbrev main_call2_v1 : Ref sig .tc := ⟨.hbm, 21, rfl⟩
abbrev main_call2_c_0 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_c_1 : Ref sig .tc := ⟨.hbm, 27, rfl⟩
abbrev main_call2_c_2 : Ref sig .tc := ⟨.hbm, 28, rfl⟩
abbrev main_call2_v6 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_c_3 : Ref sig .tc := ⟨.hbm, 35, rfl⟩
abbrev main_call2_v12 : Ref sig .tc := ⟨.hbm, 36, rfl⟩
abbrev main_call2_v13 : Ref sig .tc := ⟨.hbm, 37, rfl⟩
abbrev main_call2_cst : Ref sig .tc := ⟨.hbm, 38, rfl⟩
abbrev main_call2_v14 : Ref sig .tc := ⟨.hbm, 39, rfl⟩
abbrev main_v7 : Ref sig .tc := ⟨.hbm, 40, rfl⟩
abbrev main_call3_c : Ref sig .tc := ⟨.hbm, 41, rfl⟩
abbrev main_call3_v0 : Ref sig .tc := ⟨.hbm, 42, rfl⟩
abbrev main_call3_v1 : Ref sig .tc := ⟨.hbm, 43, rfl⟩
abbrev main_call3_c_0 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_call3_v5 : Ref sig .tc := ⟨.hbm, 48, rfl⟩
abbrev main_call3_c_1 : Ref sig .tc := ⟨.hbm, 49, rfl⟩
abbrev main_call3_c_2 : Ref sig .tc := ⟨.hbm, 50, rfl⟩
abbrev main_call3_v6 : Ref sig .tc := ⟨.hbm, 51, rfl⟩
abbrev main_call3_v7 : Ref sig .tc := ⟨.hbm, 52, rfl⟩
abbrev main_call3_v8 : Ref sig .tc := ⟨.hbm, 53, rfl⟩
abbrev main_call3_v9 : Ref sig .tc := ⟨.hbm, 54, rfl⟩
abbrev main_call3_v10 : Ref sig .tc := ⟨.hbm, 55, rfl⟩
abbrev main_call3_v11 : Ref sig .tc := ⟨.hbm, 56, rfl⟩
abbrev main_call3_c_3 : Ref sig .tc := ⟨.hbm, 57, rfl⟩
abbrev main_call3_v12 : Ref sig .tc := ⟨.hbm, 58, rfl⟩
abbrev main_call3_v13 : Ref sig .tc := ⟨.hbm, 59, rfl⟩
abbrev main_call3_cst : Ref sig .tc := ⟨.hbm, 60, rfl⟩
abbrev main_call3_v14 : Ref sig .tc := ⟨.hbm, 61, rfl⟩
abbrev main_v8 : Ref sig .tc := ⟨.hbm, 62, rfl⟩
abbrev main_call4_c : Ref sig .tc := ⟨.hbm, 63, rfl⟩
abbrev main_call4_v0 : Ref sig .tc := ⟨.hbm, 64, rfl⟩
abbrev main_call4_v1 : Ref sig .tc := ⟨.hbm, 65, rfl⟩
abbrev main_call4_c_0 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_call4_v5 : Ref sig .tc := ⟨.hbm, 70, rfl⟩
abbrev main_call4_c_1 : Ref sig .tc := ⟨.hbm, 71, rfl⟩
abbrev main_call4_c_2 : Ref sig .tc := ⟨.hbm, 72, rfl⟩
abbrev main_call4_v6 : Ref sig .tc := ⟨.hbm, 73, rfl⟩
abbrev main_call4_v7 : Ref sig .tc := ⟨.hbm, 74, rfl⟩
abbrev main_call4_v8 : Ref sig .tc := ⟨.hbm, 75, rfl⟩
abbrev main_call4_v9 : Ref sig .tc := ⟨.hbm, 76, rfl⟩
abbrev main_call4_v10 : Ref sig .tc := ⟨.hbm, 77, rfl⟩
abbrev main_call4_v11 : Ref sig .tc := ⟨.hbm, 78, rfl⟩
abbrev main_call4_c_3 : Ref sig .tc := ⟨.hbm, 79, rfl⟩
abbrev main_call4_v12 : Ref sig .tc := ⟨.hbm, 80, rfl⟩
abbrev main_call4_v13 : Ref sig .tc := ⟨.hbm, 81, rfl⟩
abbrev main_call4_cst : Ref sig .tc := ⟨.hbm, 82, rfl⟩
abbrev main_call4_v14 : Ref sig .tc := ⟨.hbm, 83, rfl⟩
abbrev main_v9 : Ref sig .tc := ⟨.hbm, 84, rfl⟩
abbrev main_call5_c : Ref sig .tc := ⟨.hbm, 85, rfl⟩
abbrev main_call5_v0 : Ref sig .tc := ⟨.hbm, 86, rfl⟩
abbrev main_call5_v1 : Ref sig .tc := ⟨.hbm, 87, rfl⟩
abbrev main_call5_c_0 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_call5_v5 : Ref sig .tc := ⟨.hbm, 92, rfl⟩
abbrev main_call5_c_1 : Ref sig .tc := ⟨.hbm, 93, rfl⟩
abbrev main_call5_c_2 : Ref sig .tc := ⟨.hbm, 94, rfl⟩
abbrev main_call5_v6 : Ref sig .tc := ⟨.hbm, 95, rfl⟩
abbrev main_call5_v7 : Ref sig .tc := ⟨.hbm, 96, rfl⟩
abbrev main_call5_v8 : Ref sig .tc := ⟨.hbm, 97, rfl⟩
abbrev main_call5_v9 : Ref sig .tc := ⟨.hbm, 98, rfl⟩
abbrev main_call5_v10 : Ref sig .tc := ⟨.hbm, 99, rfl⟩
abbrev main_call5_v11 : Ref sig .tc := ⟨.hbm, 100, rfl⟩
abbrev main_call5_c_3 : Ref sig .tc := ⟨.hbm, 101, rfl⟩
abbrev main_call5_v12 : Ref sig .tc := ⟨.hbm, 102, rfl⟩
abbrev main_call5_v13 : Ref sig .tc := ⟨.hbm, 103, rfl⟩
abbrev main_call5_cst : Ref sig .tc := ⟨.hbm, 104, rfl⟩
abbrev main_call5_v14 : Ref sig .tc := ⟨.hbm, 105, rfl⟩
abbrev main_v10 : Ref sig .tc := ⟨.hbm, 106, rfl⟩
abbrev main_v11 : Ref sig .tc := ⟨.hbm, 107, rfl⟩
abbrev main_v12 : Ref sig .tc := ⟨.hbm, 108, rfl⟩
abbrev main_v13 : Ref sig .tc := ⟨.hbm, 109, rfl⟩
abbrev main_v14 : Ref sig .tc := ⟨.hbm, 110, rfl⟩
abbrev main_v15 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v62 : BitVec 1 := Scalar.cmpi .eq arg0 c127_i32
  let v63 : BitVec 32 := Scalar.extui v62
  let c0_i32_24 : BitVec 32 := 0#32
  let v64 : BitVec 1 := Scalar.cmpi .ne v63 c0_i32_24
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S2000000 : Shape := ⟨1, ![2000000]⟩
abbrev S_ : Shape := ⟨0, ![]⟩
abbrev S2000000x1 : Shape := ⟨2, ![2000000, 1]⟩
abbrev S1 : Shape := ⟨1, ![1]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S2000000, .f32⟩
  | 1 => ⟨S2000000, .f32⟩
  | 2 => ⟨S2000000, .f32⟩
  | 3 => ⟨S2000000, .i32⟩
  | 4 => ⟨S2000000, .i32⟩
  | 5 => ⟨S2000000, .i32⟩
  | 6 => ⟨S2000000, .f32⟩
  | 7 => ⟨S2000000, .i32⟩
  | 8 => ⟨S2000000, .i32⟩
  | 9 => ⟨S2000000, .i32⟩
  | 10 => ⟨S2000000, .i32⟩
  | 11 => ⟨S2000000, .i32⟩
  | 12 => ⟨S2000000, .i32⟩
  | 13 => ⟨S_, .i32⟩
  | 14 => ⟨S2000000, .i32⟩
  | 15 => ⟨S_, .i32⟩
  | 16 => ⟨S2000000, .i32⟩
  | 17 => ⟨S2000000, .i1⟩
  | 18 => ⟨S_, .i32⟩
  | 19 => ⟨S2000000, .i32⟩
  | 20 => ⟨S2000000, .i32⟩
  | 21 => ⟨S2000000, .i32⟩
  | 22 => ⟨S2000000x1, .i32⟩
  | 23 => ⟨S2000000, .i32⟩
  | 24 => ⟨S_, .i32⟩
  | 25 => ⟨S2000000, .i32⟩
  | 26 => ⟨S2000000, .i1⟩
  | 27 => ⟨S_, .i32⟩
  | 28 => ⟨S2000000, .i32⟩
  | 29 => ⟨S2000000, .i32⟩
  | 30 => ⟨S2000000, .i32⟩
  | 31 => ⟨S2000000x1, .i32⟩
  | 32 => ⟨S1, .i32⟩
  | 33 => ⟨S_, .i32⟩
  | 34 => ⟨S2000000x1, .i32⟩
  | 35 => ⟨S2000000x1, .i1⟩
  | 36 => ⟨S1x1, .i32⟩
  | 37 => ⟨S2000000x1, .i32⟩
  | 38 => ⟨S2000000x1, .i1⟩
  | 39 => ⟨S2000000x1, .i1⟩
  | 40 => ⟨S_, .i1⟩
  | 41 => ⟨S2000000, .i1⟩
  | 42 => ⟨S2000000, .f32⟩
  | 43 => ⟨S_, .f32⟩
  | 44 => ⟨S2000000, .f32⟩
  | 45 => ⟨S2000000, .f32⟩
  | 46 => ⟨S2000000, .f32⟩
  | 47 => ⟨S2000000, .f32⟩
  | 48 => ⟨S_, .f32⟩
  | 49 => ⟨S2000000, .f32⟩
  | 50 => ⟨S2000000, .i1⟩
  | 51 => ⟨S_, .f32⟩
  | 52 => ⟨S2000000, .f32⟩
  | 53 => ⟨S2000000, .i1⟩
  | 54 => ⟨S_, .f32⟩
  | 55 => ⟨S2000000, .f32⟩
  | 56 => ⟨S_, .f32⟩
  | 57 => ⟨S_, .f32⟩
  | 58 => ⟨S2000000, .f32⟩
  | 59 => ⟨S2000000, .f32⟩
  | 60 => ⟨S_, .f32⟩
  | 61 => ⟨S_, .f32⟩
  | 62 => ⟨S2000000, .f32⟩
  | 63 => ⟨S2000000, .f32⟩
  | 64 => ⟨S2000000, .f32⟩
  | 65 => ⟨S2000000, .f32⟩
  | 66 => ⟨S_, .f32⟩
  | 67 => ⟨S2000000, .f32⟩
  | 68 => ⟨S2000000, .f32⟩
  | 69 => ⟨S_, .f32⟩
  | 70 => ⟨S2000000, .f32⟩
  | 71 => ⟨S2000000, .f32⟩
  | 72 => ⟨S_, .i32⟩
  | 73 => ⟨S2000000, .i32⟩
  | 74 => ⟨S2000000, .i1⟩
  | 75 => ⟨S_, .i32⟩
  | 76 => ⟨S2000000, .i32⟩
  | 77 => ⟨S2000000, .i32⟩
  | 78 => ⟨S2000000, .i32⟩
  | 79 => ⟨S2000000x1, .i32⟩
  | 80 => ⟨S1, .i32⟩
  | 81 => ⟨S_, .i32⟩
  | 82 => ⟨S2000000x1, .i32⟩
  | 83 => ⟨S2000000x1, .i1⟩
  | 84 => ⟨S1x1, .i32⟩
  | 85 => ⟨S2000000x1, .i32⟩
  | 86 => ⟨S2000000x1, .i1⟩
  | 87 => ⟨S2000000x1, .i1⟩
  | 88 => ⟨S_, .i1⟩
  | 89 => ⟨S2000000, .i1⟩
  | 90 => ⟨S2000000, .f32⟩
  | 91 => ⟨S_, .f32⟩
  | 92 => ⟨S2000000, .f32⟩
  | 93 => ⟨S2000000, .f32⟩
  | 94 => ⟨S2000000, .f32⟩
  | 95 => ⟨S2000000, .f32⟩
  | 96 => ⟨S_, .f32⟩
  | 97 => ⟨S2000000, .f32⟩
  | 98 => ⟨S2000000, .f32⟩
  | 99 => ⟨S_, .f32⟩
  | 100 => ⟨S2000000, .f32⟩
  | 101 => ⟨S2000000, .f32⟩
  | 102 => ⟨S2000000, .f32⟩
  | 103 => ⟨S_, .f32⟩
  | 104 => ⟨S2000000, .f32⟩
  | 105 => ⟨S2000000, .i1⟩
  | 106 => ⟨S2000000, .f32⟩
  | 107 => ⟨S_, .f32⟩
  | 108 => ⟨S_, .f32⟩
  | 109 => ⟨S_, .f32⟩
  | 110 => ⟨S_, .f32⟩
  | 111 => ⟨S2000000, .i1⟩
  | 112 => ⟨S2000000, .f32⟩
  | 113 => ⟨S_, .f32⟩
  | 114 => ⟨S_, .f32⟩
  | 115 => ⟨S_, .f32⟩
  | 116 => ⟨S_, .f32⟩
  | 117 => ⟨S2000000, .f32⟩
  | 118 => ⟨S2000000, .f32⟩
  | 119 => ⟨S2000000, .f32⟩
  | 120 => ⟨S_, .f32⟩
  | 121 => ⟨S2000000, .f32⟩
  | 122 => ⟨S2000000, .f32⟩
  | 123 => ⟨S2000000, .f32⟩
  | 124 => ⟨S_, .f32⟩
  | 125 => ⟨S_, .f32⟩
  | 126 => ⟨S2000000, .f32⟩
  | 127 => ⟨S2000000, .f32⟩
  | _ => ⟨S2000000, .f32⟩

abbrev hbmTy0_1 (i : Nat) : BufTy := match i % 128 with
  | 0 => ⟨S_, .f32⟩
  | 1 => ⟨S_, .f32⟩
  | 2 => ⟨S_, .f32⟩
  | 3 => ⟨S2000000, .i1⟩
  | 4 => ⟨S2000000, .f32⟩
  | 5 => ⟨S_, .f32⟩
  | 6 => ⟨S_, .f32⟩
  | 7 => ⟨S2000000, .f32⟩
  | 8 => ⟨S2000000, .f32⟩
  | 9 => ⟨S_, .f32⟩
  | 10 => ⟨S_, .f32⟩
  | 11 => ⟨S_, .f32⟩
  | 12 => ⟨S_, .f32⟩
  | 13 => ⟨S1x1, .f32⟩
  | _ => ⟨S2000000, .f32⟩

abbrev hbmTy (i : Nat) : BufTy := match i / 128 with
  | 0 => hbmTy0_0 i
  | 1 => hbmTy0_1 i
  | _ => ⟨S2000000, .f32⟩

abbrev bufTy : (tb : Table) → Fin (tcTables nBuf tb) → BufTy
  | .hbm, ⟨i, _⟩ => hbmTy i
  | _, _ => ⟨S2000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1_0 : Ref sig .tc := ⟨.hbm, 5, rfl⟩
abbrev main_call0_v1_1 : Ref sig .tc := ⟨.hbm, 6, rfl⟩
abbrev main_v0 : Ref sig .tc := ⟨.hbm, 7, rfl⟩
abbrev main_v1 : Ref sig .tc := ⟨.hbm, 8, rfl⟩
abbrev main_call1_v0 : Ref sig .tc := ⟨.hbm, 9, rfl⟩
abbrev main_call1_v1_0 : Ref sig .tc := ⟨.hbm, 10, rfl⟩
abbrev main_call1_v1_1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call2_c : Ref sig .tc := ⟨.hbm, 24, rfl⟩
abbrev main_call2_v0 : Ref sig .tc := ⟨.hbm, 25, rfl⟩
abbrev main_call2_v1 : Ref sig .tc := ⟨.hbm, 26, rfl⟩
abbrev main_call2_c_0 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_c_1 : Ref sig .tc := ⟨.hbm, 32, rfl⟩
abbrev main_call2_c_2 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_call2_c_3 : Ref sig .tc := ⟨.hbm, 40, rfl⟩
abbrev main_call2_v12 : Ref sig .tc := ⟨.hbm, 41, rfl⟩
abbrev main_call2_v13 : Ref sig .tc := ⟨.hbm, 42, rfl⟩
abbrev main_call2_cst : Ref sig .tc := ⟨.hbm, 43, rfl⟩
abbrev main_call2_v14 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst : Ref sig .tc := ⟨.hbm, 48, rfl⟩
abbrev main_v14 : Ref sig .tc := ⟨.hbm, 49, rfl⟩
abbrev main_v15 : Ref sig .tc := ⟨.hbm, 50, rfl⟩
abbrev main_cst_2 : Ref sig .tc := ⟨.hbm, 51, rfl⟩
abbrev main_v16 : Ref sig .tc := ⟨.hbm, 52, rfl⟩
abbrev main_v17 : Ref sig .tc := ⟨.hbm, 53, rfl⟩
abbrev main_cst_3 : Ref sig .tc := ⟨.hbm, 54, rfl⟩
abbrev main_v18 : Ref sig .tc := ⟨.hbm, 55, rfl⟩
abbrev main_cst_4 : Ref sig .tc := ⟨.hbm, 56, rfl⟩
abbrev main_call3_v0 : Ref sig .tc := ⟨.hbm, 57, rfl⟩
abbrev main_call3_v1 : Ref sig .tc := ⟨.hbm, 58, rfl⟩
abbrev main_v19 : Ref sig .tc := ⟨.hbm, 59, rfl⟩
abbrev main_cst_5 : Ref sig .tc := ⟨.hbm, 60, rfl⟩
abbrev main_call4_v0 : Ref sig .tc := ⟨.hbm, 61, rfl⟩
abbrev main_call4_v1 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst_6 : Ref sig .tc := ⟨.hbm, 66, rfl⟩
abbrev main_v23 : Ref sig .tc := ⟨.hbm, 67, rfl⟩
abbrev main_v24 : Ref sig .tc := ⟨.hbm, 68, rfl⟩
abbrev main_cst_7 : Ref sig .tc := ⟨.hbm, 69, rfl⟩
abbrev main_v25 : Ref sig .tc := ⟨.hbm, 70, rfl⟩
abbrev main_v26 : Ref sig .tc := ⟨.hbm, 71, rfl⟩
abbrev main_call5_c : Ref sig .tc := ⟨.hbm, 72, rfl⟩
abbrev main_call5_v0 : Ref sig .tc := ⟨.hbm, 73, rfl⟩
abbrev main_call5_v1 : Ref sig .tc := ⟨.hbm, 74, rfl⟩
abbrev main_call5_c_0 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_call5_v5 : Ref sig .tc := ⟨.hbm, 79, rfl⟩
abbrev main_call5_c_1 : Ref sig .tc := ⟨.hbm, 80, rfl⟩
abbrev main_call5_c_2 : Ref sig .tc := ⟨.hbm, 81, rfl⟩
abbrev main_call5_v6 : Ref sig .tc := ⟨.hbm, 82, rfl⟩
abbrev main_call5_v7 : Ref sig .tc := ⟨.hbm, 83, rfl⟩
abbrev main_call5_v8 : Ref sig .tc := ⟨.hbm, 84, rfl⟩
abbrev main_call5_v9 : Ref sig .tc := ⟨.hbm, 85, rfl⟩
abbrev main_call5_v10 : Ref sig .tc := ⟨.hbm, 86, rfl⟩
abbrev main_call5_v11 : Ref sig .tc := ⟨.hbm, 87, rfl⟩
abbrev main_call5_c_3 : Ref sig .tc := ⟨.hbm, 88, rfl⟩
abbrev main_call5_v12 : Ref sig .tc := ⟨.hbm, 89, rfl⟩
abbrev main_call5_v13 : Ref sig .tc := ⟨.hbm, 90, rfl⟩
abbrev main_call5_cst : Ref sig .tc := ⟨.hbm, 91, rfl⟩
abbrev main_call5_v14 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_cst_8 : Ref sig .tc := ⟨.hbm, 96, rfl⟩
abbrev main_v30 : Ref sig .tc := ⟨.hbm, 97, rfl⟩
abbrev main_v31 : Ref sig .tc := ⟨.hbm, 98, rfl⟩
abbrev main_cst_9 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_cst_10 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_cst_11 : Ref sig .tc := ⟨.hbm, 107, rfl⟩
abbrev main_v38 : Ref sig .tc := ⟨.hbm, 108, rfl⟩
abbrev main_cst_12 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_cst_13 : Ref sig .tc := ⟨.hbm, 113, rfl⟩
abbrev main_v42 : Ref sig .tc := ⟨.hbm, 114, rfl⟩
abbrev main_cst_14 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_cst_15 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_cst_16 : Ref sig .tc := ⟨.hbm, 124, rfl⟩
abbrev main_call6_v0 : Ref sig .tc := ⟨.hbm, 125, rfl⟩
abbrev main_call6_v1 : Ref sig .tc := ⟨.hbm, 126, rfl⟩
abbrev main_v50 : Ref sig .tc := ⟨.hbm, 127, rfl⟩
abbrev main_cst_17 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_cst_18 : Ref sig .tc := ⟨.hbm, 133, rfl⟩
abbrev main_call7_v0 : Ref sig .tc := ⟨.hbm, 134, rfl⟩
abbrev main_call7_v1 : Ref sig .tc := ⟨.hbm, 135, rfl⟩
abbrev main_v55 : Ref sig .tc := ⟨.hbm, 136, rfl⟩
abbrev main_cst_19 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩

abbrev nD : Nat := 1
abbrev τ : Topo := Topo.v7x

variable {F : FTy → Type} [FloatOps F]
-- ==== Proof.Ideal.Body.lean ====
/- One point of the idealised kernel's body: the first point zeroes the three scratch words, every point adds its block's three sums to
   them, and the last point stores the result. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.CellWrites
public import Idealize.ShloMosaic.Lib.WholeRead
public import Idealize.ShloMosaic.Lib.Tactic
public import Idealize.ShloMosaic.Lib.WordCmp

@[expose] public section

set_option maxRecDepth 16384

noncomputable section

namespace Cert.KernelIdeal.Loss

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body zeroes its running sums, as printed, from the grid coordinate. -/
abbrev isFirst (i : grid0.Coords) : Prop :=
  (Scalar.cmpi .ne (Scalar.extui (Scalar.cmpi .eq (BitVec.ofNat 32 (i 0).val) 0#32)) 0#32) = 1#1

/-- The condition under which the body stores its result, as printed. -/
abbrev isLast (i : grid0.Coords) : Prop := k0_cond2 i = 1#1

/-- The running sums are zeroed at the first point only. -/
theorem isFirst_iff : ∀ t : Fin cfg0.N, isFirst (grid0.coords t) ↔ t.val = 0 :=
  (fun t => by
    have ht : t.val < 128 := Nat.lt_of_lt_of_eq t.isLt N_0
    have e0 : (grid0.coords t 0).val = t.val / 1 % 128 := Pipeline.Grid.coords_val t 0 (by decide) rfl
    simp only [isFirst, e0]
    have : t.val = t.val % 128 := (Nat.mod_eq_of_lt ht).symm
    rw [this]
    word_cmp
   : ∀ t : Fin grid0.N, isFirst (grid0.coords t) ↔ t.val = 0)

/-- The result is stored at the last point only. -/
theorem isLast_iff : ∀ t : Fin cfg0.N, isLast (grid0.coords t) ↔ t.val % 128 = 127 :=
  (fun t => by
    have ht : t.val < 128 := Nat.lt_of_lt_of_eq t.isLt N_0
    have e0 : (grid0.coords t 0).val = t.val / 1 % 128 := Pipeline.Grid.coords_val t 0 (by decide) rfl
    simp only [isLast, k0_cond2, e0]
    word_cmp
   : ∀ t : Fin grid0.N, isLast (grid0.coords t) ↔ t.val % 128 = 127)

/-- The index of word `k` of the four-word scratch. -/
def cell (k : ℕ) (h : k < 4) : S4.Idx := fun a => ⟨k, by fin_cases a; exact h⟩

/-- Any index of the scratch is the index of its coordinate. -/
theorem eq_cell (y : S4.Idx) (k : ℕ) (h : k < 4) (e : (y 0).val = k) : y = cell k h := by
  funext a
  fin_cases a
  exact Fin.ext e

/-- The scratch with its first three words zeroed (the fourth is never touched). -/
def zeroed (xs : Vec F S4 .f32) : Vec F S4 .f32 := fun y =>
  if (y 0).val = 2 then Scalar.ofBits .f32 0x00000000#32
  else if (y 0).val = 1 then Scalar.ofBits .f32 0x00000000#32
  else if (y 0).val = 0 then Scalar.ofBits .f32 0x00000000#32
  else xs y

/-- The scratch after a point that found it at `xs`, from the four blocks the point reads: each of the first three
    words has the sum over the block of its summand added to it. -/
def step (x0 x1 x2 x3 : Vec F S128x128 .f32) (xs : Vec F S4 .f32) : Vec F S4 .f32 := fun y =>
  if (y 0).val = 2 then k0_pay3 (k0_pay7 x0 x1) (xs (cell 2 (by decide)))
  else if (y 0).val = 1 then k0_pay2 (k0_pay6 x2 x3) (k0_pay7 x0 x1) (xs (cell 1 (by decide)))
  else if (y 0).val = 0 then k0_pay1 (xs (cell 0 (by decide))) (k0_pay8 x0 x1 x2 x3)
  else xs y

/-- What the last point stores, from the scratch it leaves. -/
def result (ys : Vec F S4 .f32) : Vec F S1x1 .f32 := fun _ =>
  k0_pay4 (ys (cell 2 (by decide))) (ys (cell 2 (by decide))) (ys (cell 0 (by decide))) (ys (cell 1 (by decide)))

/-- A load of the whole of a whole block held at the contents that read `x` is `x`. -/
theorem readAt_block {arg : Memref sig .tc .vmem S128x128 .f32} (harg : arg.IsWhole) (x : Vec F S128x128 .f32) :
    View.readAt (Elt F) arg.view (Rect.unit (s := S128x128) ![0, 0] ![128, 128] inb_S128x128_S128x128_0_0).toLoadRect
      (harg.unread x) = x := by
  funext y
  refine (harg.readAt_unread x _ y).trans (congrArg x ?_)
  funext a
  apply Fin.ext
  fin_cases a
  · show 0 + 1 * (y 0).val = (y 0).val
    omega
  · show 0 + 1 * (y 1).val = (y 1).val
    omega

/-- A load of word `k` of the scratch held at the contents that read `xs` is word `k` of `xs`. -/
theorem readAt_word {arg : Memref sig .tc .smem S4 .f32} (harg : arg.IsWhole) (xs : Vec F S4 .f32) (k : ℕ) (h : k < 4)
    (inb : ∀ a, (![k] : Fin 1 → ℕ) a + S1.size a ≤ S4.size a)
    (y : (Rect.unit (s := S4) ![k] S1.size inb).toLoadRect.shape.Idx) :
    View.readAt (Elt F) arg.view (Rect.unit (s := S4) ![k] S1.size inb).toLoadRect (harg.unread xs) y
      = xs (cell k h) := by
  refine (harg.readAt_unread xs _ y).trans (congrArg xs (eq_cell _ k h ?_))
  have hy : (y 0).val < 1 := (y 0).isLt
  show k + 1 * (y 0).val = k
  omega

set_option maxHeartbeats 1000000 in
/-- The body at the first point: the running sums are zeroed, then stepped; the result is left as it was. -/
theorem run_first (c : Dev nD) (i : grid0.Coords) (arg1 : Memref sig .tc .vmem S128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .smem S1x1 .f32) (harg5 : arg5.IsWhole) (arg6 : Memref sig .tc .smem S4 .f32) (harg6 : arg6.IsWhole)
    (hc0 : isFirst i) (hc1 : ¬isLast i) (x0 x1 x2 x3 : Vec F S128x128 .f32) (d : Vec F S1x1 .f32) (xs : Vec F S4 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare d ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare d ∗ owns (c : Thread nD τ) arg6 fullShare (step x0 x1 x2 x3 (zeroed xs))) -∗ K ⟨⟩))
      ⊢ wp frame (wpE (defs₀ (F := F)) Variants.none c none) E (cc0__loss_body i arg1 harg1 arg2 harg2 arg3 harg3 arg4 harg4 arg5 harg5 arg6 harg6) K := by
  simp only [cc0__loss_body_eq_skeleton]; unfold cc0__loss_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    exact harg5.read_unread _
  iexists _; isplitr; swap; · iexact HS0
  ipureintro
  simp only [readAt_block]
  funext y
  rw [View.read_writes_cons_cell, View.read_writes_cons_cell, View.read_writes_cons_cell, View.read_writes_cons_cell,
    View.read_writes_cons_cell, View.read_writes_cons_cell, View.writes_nil, harg6.read_unread]
  rfl

set_option maxHeartbeats 1000000 in
/-- The body at a point neither first nor last: the running sums are stepped; the result is left as it was. -/
theorem run_mid (c : Dev nD) (i : grid0.Coords) (arg1 : Memref sig .tc .vmem S128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .smem S1x1 .f32) (harg5 : arg5.IsWhole) (arg6 : Memref sig .tc .smem S4 .f32) (harg6 : arg6.IsWhole)
    (hc0 : ¬isFirst i) (hc1 : ¬isLast i) (x0 x1 x2 x3 : Vec F S128x128 .f32) (d : Vec F S1x1 .f32) (xs : Vec F S4 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare d ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare d ∗ owns (c : Thread nD τ) arg6 fullShare (step x0 x1 x2 x3 xs)) -∗ K ⟨⟩))
      ⊢ wp frame (wpE (defs₀ (F := F)) Variants.none c none) E (cc0__loss_body i arg1 harg1 arg2 harg2 arg3 harg3 arg4 harg4 arg5 harg5 arg6 harg6) K := by
  simp only [cc0__loss_body_eq_skeleton]; unfold cc0__loss_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs0
  sl_exec (disch := first | sl_exact hc0 | sl_exact hc1)
  sl_step
  have h0 : run_mid.sl.r c arg6 harg6 xs = xs (cell 0 (by decide)) := readAt_word harg6 xs 0 (by decide) _ _
  have h1 : run_mid.sl.r_2 c arg6 harg6 xs = xs (cell 1 (by decide)) := readAt_word harg6 xs 1 (by decide) _ _
  have h2 : run_mid.sl.r_3 c arg6 harg6 xs = xs (cell 2 (by decide)) := readAt_word harg6 xs 2 (by decide) _ _
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    exact harg5.read_unread _
  iexists _; isplitr; swap; · iexact HS0
  ipureintro
  simp only [readAt_block]
  funext y
  rw [View.read_writes_cons_cell, View.read_writes_cons_cell, View.read_writes_cons_cell, View.writes_nil, harg6.read_unread]
  rw [h0, h1, h2]
  rfl

set_option maxHeartbeats 1000000 in
/-- The body at the last point: the running sums are stepped, and the result stored from them. -/
theorem run_last (c : Dev nD) (i : grid0.Coords) (arg1 : Memref sig .tc .vmem S128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .smem S1x1 .f32) (harg5 : arg5.IsWhole) (arg6 : Memref sig .tc .smem S4 .f32) (harg6 : arg6.IsWhole)
    (hc0 : ¬isFirst i) (hc1 : isLast i) (x0 x1 x2 x3 : Vec F S128x128 .f32) (d : Vec F S1x1 .f32) (xs : Vec F S4 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare d ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (result (step x0 x1 x2 x3 xs)) ∗ owns (c : Thread nD τ) arg6 fullShare (step x0 x1 x2 x3 xs)) -∗ K ⟨⟩))
      ⊢ wp frame (wpE (defs₀ (F := F)) Variants.none c none) E (cc0__loss_body i arg1 harg1 arg2 harg2 arg3 harg3 arg4 harg4 arg5 harg5 arg6 harg6) K := by
  simp only [cc0__loss_body_eq_skeleton]; unfold cc0__loss_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs0
  sl_exec (disch := first | sl_exact hc0 | sl_exact hc1)
  sl_step
  have h0 : run_last.sl.r c arg6 harg6 xs = xs (cell 0 (by decide)) := readAt_word harg6 xs 0 (by decide) _ _
  have h1 : run_last.sl.r_2 c arg6 harg6 xs = xs (cell 1 (by decide)) := readAt_word harg6 xs 1 (by decide) _ _
  have h2 : run_last.sl.r_3 c arg6 harg6 xs = xs (cell 2 (by decide)) := readAt_word harg6 xs 2 (by decide) _ _
  have g0 : run_last.sl.r_5 c arg1 harg1 arg2 harg2 arg3 harg3 arg4 harg4 arg6 harg6 x0 x1 x2 x3 xs
      = k0_pay1 (xs (cell 0 (by decide))) (k0_pay8 x0 x1 x2 x3) := by
    delta run_last.sl.r_5; rw [h0]; simp only [readAt_block]
  have g1 : run_last.sl.r_6 c arg1 harg1 arg2 harg2 arg3 harg3 arg4 harg4 arg6 harg6 x0 x1 x2 x3 xs
      = k0_pay2 (k0_pay6 x2 x3) (k0_pay7 x0 x1) (xs (cell 1 (by decide))) := by
    delta run_last.sl.r_6; rw [h1]; simp only [readAt_block]
  have g2 : run_last.sl.r_4 c arg1 harg1 arg2 harg2 arg6 harg6 x0 x1 xs
      = k0_pay3 (k0_pay7 x0 x1) (xs (cell 2 (by decide))) := by
    delta run_last.sl.r_4; rw [h2]; simp only [readAt_block]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    rw [g0, g1, g2]
    funext y
    exact (View.read_writes_cons_unit_of_mem arg5.view _ inb_S1x1_S1x1_0_0 _ _ y (fun a => ⟨0, by fin_cases a <;> decide⟩) rfl
      (fun a => by have := (y a).isLt; fin_cases a <;> simp_all [Shape.size])).trans rfl
  iexists _; isplitr; swap; · iexact HS0
  ipureintro
  simp only [readAt_block]
  funext y
  rw [View.read_writes_cons_cell, View.read_writes_cons_cell, View.read_writes_cons_cell, View.writes_nil, harg6.read_unread]
  rw [h0, h1, h2]
  rfl

end Cert.KernelIdeal.Loss

end
-- ==== Proof.Ideal.Run.lean ====
/- The run of the idealised kernel: the scratch words carried from point to point as running sums, the body at every point, and the
   launch, which ends with the result stored after the last point, the arguments unchanged and every semaphore at zero. -/
module

public import proofs.«01_k».proof.Proof.Ideal.Body
public import Idealize.ShloMosaic.Lib.Claim

@[expose] public section

set_option maxRecDepth 16384

noncomputable section

namespace Cert.KernelIdeal.Loss

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch operand, whole. -/
abbrev scratch : Memref sig .tc .smem S4 .f32 := Memref.whole cc0_scratch0

/-- The scratch before point `n` had the zeroing happened already, from the contents `xs` the launch left in it. -/
def acc (c : Dev nD) (xs : Vec F S4 .f32) : (n : ℕ) → n ≤ cfg0.N → Vec F S4 .f32
  | 0, _ => zeroed xs
  | n + 1, h => step (iblk m c 0 ⟨n, h⟩) (iblk m c 1 ⟨n, h⟩) (iblk m c 2 ⟨n, h⟩) (iblk m c 3 ⟨n, h⟩)
      (acc c xs n (Nat.le_of_succ_le h))

/-- Two scratches agree on the three words the body uses. -/
def Agree (xs ys : Vec F S4 .f32) : Prop := ∀ (k : ℕ) (h : k < 4), k < 3 → xs (cell k h) = ys (cell k h)

/-- Zeroing the three words makes any two scratches agree. -/
theorem zeroed_agree (xs ys : Vec F S4 .f32) : Agree (zeroed xs) (zeroed ys) := by
  intro k h h3
  obtain rfl | rfl | rfl : k = 0 ∨ k = 1 ∨ k = 2 := by omega
  all_goals rfl

/-- A point takes agreeing scratches to agreeing ones. -/
theorem step_agree (x0 x1 x2 x3 : Vec F S128x128 .f32) {xs ys : Vec F S4 .f32} (h : Agree xs ys) :
    Agree (step x0 x1 x2 x3 xs) (step x0 x1 x2 x3 ys) := by
  have h0 := h 0 (by decide) (by decide)
  have h1 := h 1 (by decide) (by decide)
  have h2 := h 2 (by decide) (by decide)
  intro k hk h3
  unfold step
  rw [h0, h1, h2]
  obtain rfl | rfl | rfl : k = 0 ∨ k = 1 ∨ k = 2 := by omega
  all_goals rfl

/-- The three running sums do not depend on what the launch left in the scratch. -/
theorem acc_agree (c : Dev nD) (xs ys : Vec F S4 .f32) : (n : ℕ) → (h : n ≤ cfg0.N) → Agree (acc m c xs n h) (acc m c ys n h)
  | 0, _ => zeroed_agree xs ys
  | n + 1, h => step_agree _ _ _ _ (acc_agree c xs ys n (Nat.le_of_succ_le h))

/-- Agreeing scratches give one result. -/
theorem result_agree {xs ys : Vec F S4 .f32} (h : Agree xs ys) : result xs = result ys := by
  have h0 := h 0 (by decide) (by decide)
  have h1 := h 1 (by decide) (by decide)
  have h2 := h 2 (by decide) (by decide)
  unfold result
  rw [h0, h1, h2]

/-- A scratch of zeros, to name the result by. -/
def zeros : Vec F S4 .f32 := fun _ => Scalar.ofBits .f32 0x00000000#32

/-- What the last point stores into the result's block. -/
def out (c : Dev nD) : Vec F S1x1 .f32 := result (acc m c zeros cfg0.N le_rfl)

/-- The invariant before point `n`: before the first the scratch at anything; afterwards the scratch at the running sums
    over the points before, from some contents the launch left; and the generator register at some state. -/
def Phi (c : Dev nD) : (n : ℕ) → n ≤ cfg0.N → sProp 𝕄
  | 0, _ => Pipeline.ΦA spec0 c
  | n + 1, h => iprop((∃ xs, owns (c : Thread nD τ) scratch fullShare (acc m c xs (n + 1) h)) ∗ (∃ r, prngReg c r))

/-- The invariant before the first point is what the launch hands over. -/
theorem Phi_zero (c : Dev nD) (n : ℕ) (h : n ≤ cfg0.N) (hz : n = 0) : Phi m c n h = Pipeline.ΦA spec0 c := by
  subst hz; rfl

/-- The invariant after a point: the scratch at the running sums. -/
theorem Phi_succ (c : Dev nD) (n : ℕ) (h : n < cfg0.N) :
    Phi m c (n + 1) h = iprop((∃ xs, owns (c : Thread nD τ) scratch fullShare (acc m c xs (n + 1) h)) ∗ (∃ r, prngReg c r)) := rfl

/-- The invariant before any point but the first: the scratch at the running sums. -/
theorem Phi_pos (c : Dev nD) (n : ℕ) (h : n ≤ cfg0.N) (hz : n ≠ 0) :
    Phi m c n h = iprop((∃ xs, owns (c : Thread nD τ) scratch fullShare (acc m c xs n h)) ∗ (∃ r, prngReg c r)) := by
  cases n with
  | zero => exact absurd rfl hz
  | succ n => rfl

/-- The launch's invariant with the scratch as a memref owned at some contents. -/
theorem PhiA0_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- The proof data of the one pipeline: the arrays as the region finds them; each input's buffer left at its block, the
    result's buffer at `out`; the invariant `Phi`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out m c
  Φ t := Phi m c t.val (Nat.le_of_lt_succ t.isLt)
  q _ := fullShare
  owed _ := 0

/-- The arrays of the proof data are those the region finds. -/
theorem A_eq (c : Dev nD) (w : Fin cfg0.W) : (dats m 0 c).A w = V m c (Pipeline.arrRef spec0 w) := by
  dsimp only [dats]

/-- The invariant of the proof data before a point. -/
theorem Phi_castSucc (c : Dev nD) (t : Fin cfg0.N) :
    (dats m 0 c).Φ t.castSucc = Phi m c t.val (Nat.le_of_lt t.isLt) := by
  dsimp only [dats]; exact Pipeline.Dat.Φ_castSucc (Phi m c) t

/-- The body leaves window 0's buffer at its block. -/
theorem after0_0 (c : Dev nD) (t : Fin cfg0.N) : (dats m 0 c).after 0 t = iblk m c 0 t := by dsimp only [dats]
/-- The body leaves window 1's buffer at its block. -/
theorem after0_1 (c : Dev nD) (t : Fin cfg0.N) : (dats m 0 c).after 1 t = iblk m c 1 t := by dsimp only [dats]
/-- The body leaves window 2's buffer at its block. -/
theorem after0_2 (c : Dev nD) (t : Fin cfg0.N) : (dats m 0 c).after 2 t = iblk m c 2 t := by dsimp only [dats]
/-- The body leaves window 3's buffer at its block. -/
theorem after0_3 (c : Dev nD) (t : Fin cfg0.N) : (dats m 0 c).after 3 t = iblk m c 3 t := by dsimp only [dats]
/-- The result's buffer is left at `out`. -/
theorem after0_4 (c : Dev nD) (t : Fin cfg0.N) : (dats m 0 c).after 4 t = out m c := by dsimp only [dats]

/-- Window 0's buffer holds its block when the body runs. -/
theorem before0_0 (c : Dev nD) (t : Fin cfg0.N) (d) : (dats m 0 c).before 0 t d = iblk m c 0 t :=
  before0_0_of m (dats m 0 c) (A_eq m c 0) (after0_0 m c) t d
/-- Window 1's buffer holds its block when the body runs. -/
theorem before0_1 (c : Dev nD) (t : Fin cfg0.N) (d) : (dats m 0 c).before 1 t d = iblk m c 1 t :=
  before0_1_of m (dats m 0 c) (A_eq m c 1) (after0_1 m c) t d
/-- Window 2's buffer holds its block when the body runs. -/
theorem before0_2 (c : Dev nD) (t : Fin cfg0.N) (d) : (dats m 0 c).before 2 t d = iblk m c 2 t :=
  before0_2_of m (dats m 0 c) (A_eq m c 2) (after0_2 m c) t d
/-- Window 3's buffer holds its block when the body runs. -/
theorem before0_3 (c : Dev nD) (t : Fin cfg0.N) (d) : (dats m 0 c).before 3 t d = iblk m c 3 t :=
  before0_3_of m (dats m 0 c) (A_eq m c 3) (after0_3 m c) t d

/-- Each window's current staging buffer at point `t`. -/
abbrev ms0 (t : Fin cfg0.N) : Memref sig .tc .vmem S128x128 .f32 := win0_0.stage (cfg0.slots t 0)
/-- The second window's staging buffer. -/
abbrev ms1 (t : Fin cfg0.N) : Memref sig .tc .vmem S128x128 .f32 := win0_1.stage (cfg0.slots t 1)
/-- The third window's staging buffer. -/
abbrev ms2 (t : Fin cfg0.N) : Memref sig .tc .vmem S128x128 .f32 := win0_2.stage (cfg0.slots t 2)
/-- The fourth window's staging buffer. -/
abbrev ms3 (t : Fin cfg0.N) : Memref sig .tc .vmem S128x128 .f32 := win0_3.stage (cfg0.slots t 3)
/-- The result's staging buffer. -/
abbrev ms4 (t : Fin cfg0.N) : Memref sig .tc .smem S1x1 .f32 := win0_4.stage (cfg0.slots t 4)

/-- The result's window is idle where the body does not store it. -/
theorem idle4_of_not (t : Fin cfg0.N) (h : ¬isLast (grid0.coords t)) : cfg0.idle 4 (cfg0.grid.coords t) = true := by
  show (!(k0_cond2 (grid0.coords t) == 1#1)) = true
  have : (k0_cond2 (grid0.coords t) == 1#1) = false := by simpa using h
  rw [this]; rfl

/-- The result's window is live where the body stores it. -/
theorem live4_of (t : Fin cfg0.N) (h : isLast (grid0.coords t)) : cfg0.idle 4 (cfg0.grid.coords t) = false := by
  show (!(k0_cond2 (grid0.coords t) == 1#1)) = false
  have : (k0_cond2 (grid0.coords t) == 1#1) = true := by simpa using h
  rw [this]; rfl

/-- Nothing is written back before the last point. -/
theorem noflush4 (t : Fin cfg0.N) (h : ¬t.val % 128 = 127) : (cfg0.win 4).flush t = false := by
  cases e : (cfg0.win 4).flush t with
  | false => rfl
  | true => exact absurd ((flush0_4 t).mp e) h

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t)

/-- What the body owes of window 0's buffer: its block. -/
theorem leaves0 (c : Dev nD) (t : Fin cfg0.N) : ((dats m 0 c).leavesExact 0 t : sProp 𝕄) = owns (c : Thread nD τ) (ms0 t) fullShare (iblk m c 0 t) := by
  rw [← after0_0 m c t]
/-- What the body owes of window 1's buffer: its block. -/
theorem leaves1 (c : Dev nD) (t : Fin cfg0.N) : ((dats m 0 c).leavesExact 1 t : sProp 𝕄) = owns (c : Thread nD τ) (ms1 t) fullShare (iblk m c 1 t) := by
  rw [← after0_1 m c t]
/-- What the body owes of window 2's buffer: its block. -/
theorem leaves2 (c : Dev nD) (t : Fin cfg0.N) : ((dats m 0 c).leavesExact 2 t : sProp 𝕄) = owns (c : Thread nD τ) (ms2 t) fullShare (iblk m c 2 t) := by
  rw [← after0_2 m c t]
/-- What the body owes of window 3's buffer: its block. -/
theorem leaves3 (c : Dev nD) (t : Fin cfg0.N) : ((dats m 0 c).leavesExact 3 t : sProp 𝕄) = owns (c : Thread nD τ) (ms3 t) fullShare (iblk m c 3 t) := by
  rw [← after0_3 m c t]
/-- Before the last point the body hands back the result's buffer as it found it. -/
theorem leaves4_idle (c : Dev nD) (t : Fin cfg0.N) (h : ¬t.val % 128 = 127) :
    ((dats m 0 c).leavesExact 4 t : sProp 𝕄) = iprop(∃ d, owns (c : Thread nD τ) (ms4 t) fullShare ((dats m 0 c).before 4 t d)) :=
  (dats m 0 c).leavesExact_idle 4 t (idle4_of_not t fun h' => h ((isLast_iff t).mp h')) (noflush4 t h)
/-- At the last point the body leaves the result's buffer at `out`. -/
theorem leaves4_last (c : Dev nD) (t : Fin cfg0.N) (h : t.val % 128 = 127) :
    ((dats m 0 c).leavesExact 4 t : sProp 𝕄) = owns (c : Thread nD τ) (ms4 t) fullShare (out m c) := by
  rw [← after0_4 m c t]
  unfold Dat.leavesExact
  rw [live4_of t ((isLast_iff t).mpr h)]

set_option maxHeartbeats 4800000 in
/-- The body at any point, by the three cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Phi m c (t.val + 1) t.isLt from rfl, Phi_succ]
  rw [leaves0, leaves1, leaves2, leaves3]
  have hN : t.val < 128 := lt_of_lt_of_eq t.isLt (show cfg0.N = 128 from N_0)
  by_cases h0 : t.val = 0
  · have h1 : ¬t.val % 128 = 127 := by omega
    rw [leaves4_idle m c t h1]
    rw [Phi_castSucc m c t, Phi_zero m c _ _ h0, PhiA0_eq]
    iintro ⟨⟨⟨%xs, HS0⟩, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ ((isFirst_iff t).mpr h0) (fun h => h1 ((isLast_iff t).mp h)) (iblk m c 0 t) (iblk m c 1 t) (iblk m c 2 t) (iblk m c 3 t) _ xs Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 Hg]
    · isplitl [HS0]
      · iexists xs
        rw [show acc m c xs (t.val + 1) t.isLt = step (iblk m c 0 t) (iblk m c 1 t) (iblk m c 2 t) (iblk m c 3 t) (zeroed xs) from by
          obtain ⟨n, hn⟩ := t
          dsimp only at h0
          subst h0
          rfl]
        iexact HS0
      iexact Hg
    isplitl [Ho]; · iexact Ho
    isplitl [H0]; · iexact H0
    isplitl [H1]; · iexact H1
    isplitl [H2]; · iexact H2
    isplitl [H3]; · iexact H3
    iexists _; iexact H4
  · have hacc : ∀ xs, acc m c xs (t.val + 1) t.isLt = step (iblk m c 0 t) (iblk m c 1 t) (iblk m c 2 t) (iblk m c 3 t) (acc m c xs t.val (Nat.le_of_lt t.isLt)) := fun xs => rfl
    by_cases h1 : t.val % 128 = 127
    · rw [leaves4_last m c t h1]
      rw [Phi_castSucc m c t, Phi_pos m c _ _ h0]
      iintro ⟨⟨⟨%xs, HS0⟩, Hg⟩, Ho, ⟨%d0, H0⟩, ⟨%d1, H1⟩, ⟨%d2, H2⟩, ⟨%d3, H3⟩, ⟨%d4, H4⟩⟩
      iapply (run_last c (grid0.coords t) _ _ _ _ _ _ _ _ _ _ _ _ (fun h => h0 ((isFirst_iff t).mp h)) ((isLast_iff t).mpr h1) (iblk m c 0 t) (iblk m c 1 t) (iblk m c 2 t) (iblk m c 3 t) _ (acc m c xs t.val (Nat.le_of_lt t.isLt)) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      rw [← hacc xs]
      isplitl [HS0 Hg]
      · isplitl [HS0]
        · iexists xs
          iexact HS0
        iexact Hg
      isplitl [Ho]; · iexact Ho
      isplitl [H0]; · iexact H0
      isplitl [H1]; · iexact H1
      isplitl [H2]; · iexact H2
      isplitl [H3]; · iexact H3
      rw [show out m c = result (acc m c xs (t.val + 1) t.isLt) from by
        obtain ⟨n, hn⟩ := t
        have hn' : n + 1 = cfg0.N := by
          have e : cfg0.N = 128 := N_0
          dsimp only at h1 hN
          omega
        unfold out
        dsimp only
        refine (result_agree (acc_agree m c zeros xs _ _)).trans ?_
        congr 2
        exact hn'.symm]
      iexact H4
    · rw [leaves4_idle m c t h1]
      rw [Phi_castSucc m c t, Phi_pos m c _ _ h0]
      iintro ⟨⟨⟨%xs, HS0⟩, Hg⟩, Ho, ⟨%d0, H0⟩, ⟨%d1, H1⟩, ⟨%d2, H2⟩, ⟨%d3, H3⟩, ⟨%d4, H4⟩⟩
      iapply (run_mid c (grid0.coords t) _ _ _ _ _ _ _ _ _ _ _ _ (fun h => h0 ((isFirst_iff t).mp h)) (fun h => h1 ((isLast_iff t).mp h)) (iblk m c 0 t) (iblk m c 1 t) (iblk m c 2 t) (iblk m c 3 t) _ (acc m c xs t.val (Nat.le_of_lt t.isLt)) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      rw [← hacc xs]
      isplitl [HS0 Hg]
      · isplitl [HS0]
        · iexists xs
          iexact HS0
        iexact Hg
      isplitl [Ho]; · iexact Ho
      isplitl [H0]; · iexact H0
      isplitl [H1]; · iexact H1
      isplitl [H2]; · iexact H2
      isplitl [H3]; · iexact H3
      iexists _; iexact H4

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]

/-- After the last point the invariant gives the launch's back. -/
theorem hout (c : Dev nD) : (dats m 0 c).Φ (Fin.last cfg0.N) ⊢ Pipeline.ΦA spec0 c := by
  have hN : cfg0.N ≠ 0 := by rw [show cfg0.N = 128 from N_0]; decide
  rw [show (dats m 0 c).Φ (Fin.last cfg0.N) = Phi m c cfg0.N le_rfl from rfl, Phi_pos m c _ _ hN, PhiA0_eq]
  iintro ⟨⟨%xs, HS0⟩, Hg⟩
  isplitl [HS0]
  · iexists _; iexact HS0
  iexact Hg

set_option backward.isDefEq.respectTransparency.types false in
/-- The launch: every fair execution ends, every array of the pipeline at what the proof data computes, every other
    buffer as the region found it, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Loss

end
-- ==== Proof.Ideal.Host.lean ====
/- What the host operations in front of the region leave in the four arrays the pipeline reads: the ranking entries and
   the scores, taken at the two sorted orders of the positions, each order padded to a whole number of blocks. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Claim
public import Idealize.ShloMosaic.Lib.StableHlo.Run
public import Idealize.ShloMosaic.Lib.StableHlo.RunRead
public import Idealize.ShloMosaic.Lib.StableHlo.RunClose

@[expose] public section

set_option maxRecDepth 16384

noncomputable section

namespace Cert.KernelIdeal.Loss

open Idealize.ShloMosaic Idealize.ShloMosaic.TcCoe Idealize.SL.Sem
open Cert.KernelIdeal Cert.KernelIdeal.Gen

variable {F : FTy → Type} [FloatOps F]

/-- The positions in the order of the ids, ties by the random keys and then by position. -/
def randOrder (ids : IVec S2000000 32) (keys : FVec F S2000000 .f32) : IVec S2000000 32 :=
  (Host.sort3 S2000000 0 comparator_i32_f32_i32_d0 ids keys (iotaInDim S2000000 32 0)).2.2

/-- The positions in the order of the ids, ties by position. -/
def idOrder (ids : IVec S2000000 32) : IVec S2000000 32 :=
  (Host.sort3 S2000000 0 comparator_i32_i32_i32_d0 ids (iotaInDim S2000000 32 0) (iotaInDim S2000000 32 0)).2.2

/-- An order followed by zeros, to a whole number of blocks. -/
def padded (x : IVec S2000000 32) : IVec S2097152 32 :=
  concatenate S2097152 0 [⟨S2000000, x⟩, ⟨S97152, broadcastInDim S97152 ![] bcast_S_S97152 (constantI S_ 32 0#32)⟩]
    concatenates_S2000000_S97152_S2097152_d0

/-- The indices as one column, a negative one counted from the end. -/
def wrapped (x : IVec S2097152 32) : IVec S2097152x1 32 :=
  broadcastInDim S2097152x1 ![0] bcast_S2097152_S2097152x1_0
    (select (cmpi .slt x (broadcastInDim S2097152 ![] bcast_S_S2097152 (constantI S_ 32 0#32)))
      (addi x (broadcastInDim S2097152 ![] bcast_S_S2097152 (constantI S_ 32 2000000#32))) x)

/-- The table's entries at the indices. -/
def taken (tbl : FVec F S2000000 .f32) (x : IVec S2097152 32) : FVec F S2097152 .f32 :=
  select (Host.reduce IntOp.andi
      (andi (cmpi .sge (wrapped x) (broadcastInDim S2097152x1 ![] bcast_S_S2097152x1 (constantI S_ 32 0#32)))
        (cmpi .sle (wrapped x) (broadcastInDim S2097152x1 ![0, 1] bcast_S1x1_S2097152x1_0_1
          (broadcastInDim S1x1 ![1] bcast_S1_S1x1_1 (constantI S1 32 1999999#32)))))
      (constantI S_ 1 1#1) reducesTo_S2097152x1_S2097152_d1 h_S_)
    (Host.gather gather_S2000000_S2097152x1_S2097152_n_0_n_n_0_1_1 tbl (wrapped x))
    (broadcastInDim S2097152 ![] bcast_S_S2097152 (constant S_ .f32 0x7FC00000#32))

variable (m : (ℓ : Loc nD τ sig) → Buf (Elt F) ℓ) (c : Dev nD)

/-- The ranking entries as launched. -/
abbrev ranks : FVec F S2000000 .f32 := m ((c : Thread nD τ).loc main_arg0)
/-- The scores as launched. -/
abbrev scores : FVec F S2000000 .f32 := m ((c : Thread nD τ).loc main_arg1)
/-- The random keys as launched. -/
abbrev keys : FVec F S2000000 .f32 := m ((c : Thread nD τ).loc main_arg2)
/-- The ids as launched. -/
abbrev ids : IVec S2000000 32 := m ((c : Thread nD τ).loc main_arg3)

/-- Running two stretches of host operations is running the one, then the other. -/
theorem after_two (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

/-- The region finds the buffers as the nine stretches leave them, one after the other. -/
theorem V_stretches (b : Ref sig .tc) : V m c b = StableHlo.after hostOps0_8 (StableHlo.after hostOps0_7 (StableHlo.after hostOps0_6
    (StableHlo.after hostOps0_5 (StableHlo.after hostOps0_4 (StableHlo.after hostOps0_3 (StableHlo.after hostOps0_2
      (StableHlo.after hostOps0_1 (StableHlo.after hostOps0 (fun b => m (c, b)))))))))) (Proc.devRef .tc b) := by
  unfold V
  simp only [List.flatten_cons, List.flatten_nil, List.append_nil, after_two]

/-- Two parts joined, each replaced by an equal one. -/
theorem joined_congr {a a' : IVec S2000000 32} {b b' : IVec S97152 32} (ha : a = a') (hb : b = b') :
    concatenate S2097152 0 [⟨S2000000, a⟩, ⟨S97152, b⟩] concatenates_S2000000_S97152_S2097152_d0
      = concatenate S2097152 0 [⟨S2000000, a'⟩, ⟨S97152, b'⟩] concatenates_S2000000_S97152_S2097152_d0 := by
  subst ha; subst hb; rfl

variable (W : Valuation τ sig (Elt F))

/-- The ids' order, padded, after the stretch that pads. -/
theorem read_v4 : StableHlo.after hostOps0_3 W (Proc.devRef .tc main_v4) = padded (W (Proc.devRef .tc main_v2)) := by
  after_reads_simp
  exact joined_congr (by after_reads_simp) (by after_reads_simp)

/-- The random order, padded, after the stretch that pads. -/
theorem read_v6 : StableHlo.after hostOps0_3 W (Proc.devRef .tc main_v6) = padded (W (Proc.devRef .tc main_v0)) := by
  after_reads_simp
  exact joined_congr (by after_reads_simp) (by after_reads_simp)

/-- Reading `v4` at its own type changes nothing. -/
theorem in_v4 (a b c) (u : (main_v4 : Ref sig .tc).ty.Contents (Elt F)) :
    (StableHlo.TRef.of (T := ⟨S2097152, .i32⟩) (main_v4 : Ref sig .tc) a b c).ofBuf u = u := rfl

/-- Reading `v6` at its own type changes nothing. -/
theorem in_v6 (a b c) (u : (main_v6 : Ref sig .tc).ty.Contents (Elt F)) :
    (StableHlo.TRef.of (T := ⟨S2097152, .i32⟩) (main_v6 : Ref sig .tc) a b c).ofBuf u = u := rfl

/-- Reading `arg0` at its own type changes nothing. -/
theorem in_arg0 (a b c) (u : (main_arg0 : Ref sig .tc).ty.Contents (Elt F)) :
    (StableHlo.TRef.of (T := ⟨S2000000, .f32⟩) (main_arg0 : Ref sig .tc) a b c).ofBuf u = u := rfl

/-- Reading `arg1` at its own type changes nothing. -/
theorem in_arg1 (a b c) (u : (main_arg1 : Ref sig .tc).ty.Contents (Elt F)) :
    (StableHlo.TRef.of (T := ⟨S2000000, .f32⟩) (main_arg1 : Ref sig .tc) a b c).ofBuf u = u := rfl

/-- Writing `v7` at its own type changes nothing. -/
theorem out_v7 (a b c) (u : (⟨S2097152, .f32⟩ : BufTy).Contents (Elt F)) :
    (StableHlo.TRef.of (T := ⟨S2097152, .f32⟩) (main_v7 : Ref sig .tc) a b c).toBuf u = u := rfl

/-- Writing `v8` at its own type changes nothing. -/
theorem out_v8 (a b c) (u : (⟨S2097152, .f32⟩ : BufTy).Contents (Elt F)) :
    (StableHlo.TRef.of (T := ⟨S2097152, .f32⟩) (main_v8 : Ref sig .tc) a b c).toBuf u = u := rfl

/-- Writing `v9` at its own type changes nothing. -/
theorem out_v9 (a b c) (u : (⟨S2097152, .f32⟩ : BufTy).Contents (Elt F)) :
    (StableHlo.TRef.of (T := ⟨S2097152, .f32⟩) (main_v9 : Ref sig .tc) a b c).toBuf u = u := rfl

/-- Writing `v10` at its own type changes nothing. -/
theorem out_v10 (a b c) (u : (⟨S2097152, .f32⟩ : BufTy).Contents (Elt F)) :
    (StableHlo.TRef.of (T := ⟨S2097152, .f32⟩) (main_v10 : Ref sig .tc) a b c).toBuf u = u := rfl

/-- The first take's result. -/
theorem read_v7 : StableHlo.after hostOps0_4 W (Proc.devRef .tc main_v7)
    = taken (W (Proc.devRef .tc main_arg0)) (W (Proc.devRef .tc main_v4)) := by
  after_reads_simp
  simp only [StableHlo.TRef.ofBuf_toBuf]
  rw [out_v7]
  simp only [in_v4, in_arg0]
  rfl

/-- The second take's result. -/
theorem read_v8 : StableHlo.after hostOps0_5 W (Proc.devRef .tc main_v8)
    = taken (W (Proc.devRef .tc main_arg0)) (W (Proc.devRef .tc main_v6)) := by
  after_reads_simp
  simp only [StableHlo.TRef.ofBuf_toBuf]
  rw [out_v8]
  simp only [in_v6, in_arg0]
  rfl

/-- The third take's result. -/
theorem read_v9 : StableHlo.after hostOps0_6 W (Proc.devRef .tc main_v9)
    = taken (W (Proc.devRef .tc main_arg1)) (W (Proc.devRef .tc main_v4)) := by
  after_reads_simp
  simp only [StableHlo.TRef.ofBuf_toBuf]
  rw [out_v9]
  simp only [in_v4, in_arg1]
  rfl

/-- The fourth take's result. -/
theorem read_v10 : StableHlo.after hostOps0_7 W (Proc.devRef .tc main_v10)
    = taken (W (Proc.devRef .tc main_arg1)) (W (Proc.devRef .tc main_v6)) := by
  after_reads_simp
  simp only [StableHlo.TRef.ofBuf_toBuf]
  rw [out_v10]
  simp only [in_v6, in_arg1]
  rfl

/-- The first sort's payload. -/
theorem read_v0 : StableHlo.after hostOps0 W (Proc.devRef .tc main_v0)
    = randOrder (W (Proc.devRef .tc main_arg3)) (W (Proc.devRef .tc main_arg2)) := by
  after_reads_simp
  simp only [StableHlo.TRef.ofBuf_toBuf]
  rfl

/-- The second sort's payload. -/
theorem read_v2 (hW : W (Proc.devRef .tc main_v1) = (iotaInDim S2000000 32 0 : IVec S2000000 32)) :
    StableHlo.after hostOps0_2 W (Proc.devRef .tc main_v2) = idOrder (W (Proc.devRef .tc main_arg3)) := by
  after_reads_simp
  simp only [StableHlo.TRef.ofBuf_toBuf, hW]
  rfl

/-- The positions, as the tie-breaking key. -/
theorem read_v1 : StableHlo.after hostOps0_1 W (Proc.devRef .tc main_v1) = (iotaInDim S2000000 32 0 : IVec S2000000 32) := by
  after_reads_simp

/-- `v11` is `v7` in rows of 128. -/
theorem read_v11 : StableHlo.after hostOps0_8 W (Proc.devRef .tc main_v11)
    = shapeCast S16384x128 (W (Proc.devRef .tc main_v7)) shapeCasts_S2097152_S16384x128 := by
  after_reads_simp
  rfl

/-- `v12` is `v8` in rows of 128. -/
theorem read_v12 : StableHlo.after hostOps0_8 W (Proc.devRef .tc main_v12)
    = shapeCast S16384x128 (W (Proc.devRef .tc main_v8)) shapeCasts_S2097152_S16384x128 := by
  after_reads_simp
  rfl

/-- `v13` is `v9` in rows of 128. -/
theorem read_v13 : StableHlo.after hostOps0_8 W (Proc.devRef .tc main_v13)
    = shapeCast S16384x128 (W (Proc.devRef .tc main_v9)) shapeCasts_S2097152_S16384x128 := by
  after_reads_simp
  rfl

/-- `v14` is `v10` in rows of 128. -/
theorem read_v14 : StableHlo.after hostOps0_8 W (Proc.devRef .tc main_v14)
    = shapeCast S16384x128 (W (Proc.devRef .tc main_v10)) shapeCasts_S2097152_S16384x128 := by
  after_reads_simp
  rfl

/-- `hostOps0_7` leaves `v7` alone. -/
theorem keep7_v7 : StableHlo.after hostOps0_7 W (Proc.devRef .tc main_v7) = W (Proc.devRef .tc main_v7) := by
  after_reads_simp

/-- `hostOps0_6` leaves `v7` alone. -/
theorem keep6_v7 : StableHlo.after hostOps0_6 W (Proc.devRef .tc main_v7) = W (Proc.devRef .tc main_v7) := by
  after_reads_simp

/-- `hostOps0_5` leaves `v7` alone. -/
theorem keep5_v7 : StableHlo.after hostOps0_5 W (Proc.devRef .tc main_v7) = W (Proc.devRef .tc main_v7) := by
  after_reads_simp

/-- `hostOps0_7` leaves `v8` alone. -/
theorem keep7_v8 : StableHlo.after hostOps0_7 W (Proc.devRef .tc main_v8) = W (Proc.devRef .tc main_v8) := by
  after_reads_simp

/-- `hostOps0_6` leaves `v8` alone. -/
theorem keep6_v8 : StableHlo.after hostOps0_6 W (Proc.devRef .tc main_v8) = W (Proc.devRef .tc main_v8) := by
  after_reads_simp

/-- `hostOps0_7` leaves `v9` alone. -/
theorem keep7_v9 : StableHlo.after hostOps0_7 W (Proc.devRef .tc main_v9) = W (Proc.devRef .tc main_v9) := by
  after_reads_simp

/-- `hostOps0_3` leaves `arg0` alone. -/
theorem keep3_arg0 : StableHlo.after hostOps0_3 W (Proc.devRef .tc main_arg0) = W (Proc.devRef .tc main_arg0) := by
  after_reads_simp

/-- `hostOps0_2` leaves `arg0` alone. -/
theorem keep2_arg0 : StableHlo.after hostOps0_2 W (Proc.devRef .tc main_arg0) = W (Proc.devRef .tc main_arg0) := by
  after_reads_simp

/-- `hostOps0_1` leaves `arg0` alone. -/
theorem keep1_arg0 : StableHlo.after hostOps0_1 W (Proc.devRef .tc main_arg0) = W (Proc.devRef .tc main_arg0) := by
  after_reads_simp

/-- `hostOps0` leaves `arg0` alone. -/
theorem keep0_arg0 : StableHlo.after hostOps0 W (Proc.devRef .tc main_arg0) = W (Proc.devRef .tc main_arg0) := by
  after_reads_simp

/-- `hostOps0_4` leaves `arg0` alone. -/
theorem keep4_arg0 : StableHlo.after hostOps0_4 W (Proc.devRef .tc main_arg0) = W (Proc.devRef .tc main_arg0) := by
  after_reads_simp

/-- `hostOps0_5` leaves `arg1` alone. -/
theorem keep5_arg1 : StableHlo.after hostOps0_5 W (Proc.devRef .tc main_arg1) = W (Proc.devRef .tc main_arg1) := by
  after_reads_simp

/-- `hostOps0_6` leaves `arg1` alone. -/
theorem keep6_arg1 : StableHlo.after hostOps0_6 W (Proc.devRef .tc main_arg1) = W (Proc.devRef .tc main_arg1) := by
  after_reads_simp

/-- `hostOps0_4` leaves `arg1` alone. -/
theorem keep4_arg1 : StableHlo.after hostOps0_4 W (Proc.devRef .tc main_arg1) = W (Proc.devRef .tc main_arg1) := by
  after_reads_simp

/-- `hostOps0_3` leaves `arg1` alone. -/
theorem keep3_arg1 : StableHlo.after hostOps0_3 W (Proc.devRef .tc main_arg1) = W (Proc.devRef .tc main_arg1) := by
  after_reads_simp

/-- `hostOps0_2` leaves `arg1` alone. -/
theorem keep2_arg1 : StableHlo.after hostOps0_2 W (Proc.devRef .tc main_arg1) = W (Proc.devRef .tc main_arg1) := by
  after_reads_simp

/-- `hostOps0_1` leaves `arg1` alone. -/
theorem keep1_arg1 : StableHlo.after hostOps0_1 W (Proc.devRef .tc main_arg1) = W (Proc.devRef .tc main_arg1) := by
  after_reads_simp

/-- `hostOps0` leaves `arg1` alone. -/
theorem keep0_arg1 : StableHlo.after hostOps0 W (Proc.devRef .tc main_arg1) = W (Proc.devRef .tc main_arg1) := by
  after_reads_simp

/-- `hostOps0_1` leaves `arg3` alone. -/
theorem keep1_arg3 : StableHlo.after hostOps0_1 W (Proc.devRef .tc main_arg3) = W (Proc.devRef .tc main_arg3) := by
  after_reads_simp

/-- `hostOps0` leaves `arg3` alone. -/
theorem keep0_arg3 : StableHlo.after hostOps0 W (Proc.devRef .tc main_arg3) = W (Proc.devRef .tc main_arg3) := by
  after_reads_simp

/-- `hostOps0_2` leaves `v0` alone. -/
theorem keep2_v0 : StableHlo.after hostOps0_2 W (Proc.devRef .tc main_v0) = W (Proc.devRef .tc main_v0) := by
  after_reads_simp

/-- `hostOps0_1` leaves `v0` alone. -/
theorem keep1_v0 : StableHlo.after hostOps0_1 W (Proc.devRef .tc main_v0) = W (Proc.devRef .tc main_v0) := by
  after_reads_simp

/-- `hostOps0_4` leaves `v4` alone. -/
theorem keep4_v4 : StableHlo.after hostOps0_4 W (Proc.devRef .tc main_v4) = W (Proc.devRef .tc main_v4) := by
  after_reads_simp

/-- `hostOps0_5` leaves `v4` alone. -/
theorem keep5_v4 : StableHlo.after hostOps0_5 W (Proc.devRef .tc main_v4) = W (Proc.devRef .tc main_v4) := by
  after_reads_simp

/-- `hostOps0_4` leaves `v6` alone. -/
theorem keep4_v6 : StableHlo.after hostOps0_4 W (Proc.devRef .tc main_v6) = W (Proc.devRef .tc main_v6) := by
  after_reads_simp

/-- `hostOps0_5` leaves `v6` alone. -/
theorem keep5_v6 : StableHlo.after hostOps0_5 W (Proc.devRef .tc main_v6) = W (Proc.devRef .tc main_v6) := by
  after_reads_simp

/-- `hostOps0_6` leaves `v6` alone. -/
theorem keep6_v6 : StableHlo.after hostOps0_6 W (Proc.devRef .tc main_v6) = W (Proc.devRef .tc main_v6) := by
  after_reads_simp

/-- The first array: the ranking entries in the ids' order. -/
theorem V_v11 : V m c main_v11 = shapeCast S16384x128 (taken (ranks m c) (padded (idOrder (ids m c)))) shapeCasts_S2097152_S16384x128 := by
  rw [V_stretches, read_v11, keep7_v7, keep6_v7, keep5_v7, read_v7, keep3_arg0, keep2_arg0, keep1_arg0, keep0_arg0, read_v4, read_v2 _ (read_v1 _), keep1_arg3, keep0_arg3]

/-- The second array: the ranking entries in the random order. -/
theorem V_v12 : V m c main_v12 = shapeCast S16384x128 (taken (ranks m c) (padded (randOrder (ids m c) (keys m c)))) shapeCasts_S2097152_S16384x128 := by
  rw [V_stretches, read_v12, keep7_v8, keep6_v8, read_v8, keep4_arg0, keep4_v6, keep3_arg0, keep2_arg0, keep1_arg0, keep0_arg0, read_v6, keep2_v0, keep1_v0, read_v0]

/-- The third array: the scores in the ids' order. -/
theorem V_v13 : V m c main_v13 = shapeCast S16384x128 (taken (scores m c) (padded (idOrder (ids m c)))) shapeCasts_S2097152_S16384x128 := by
  rw [V_stretches, read_v13, keep7_v9, read_v9, keep5_arg1, keep4_arg1, keep5_v4, keep4_v4, keep3_arg1, keep2_arg1, keep1_arg1, keep0_arg1, read_v4, read_v2 _ (read_v1 _), keep1_arg3, keep0_arg3]

/-- The fourth array: the scores in the random order. -/
theorem V_v14 : V m c main_v14 = shapeCast S16384x128 (taken (scores m c) (padded (randOrder (ids m c) (keys m c)))) shapeCasts_S2097152_S16384x128 := by
  rw [V_stretches, read_v14, read_v10, keep6_arg1, keep5_arg1, keep4_arg1, keep6_v6, keep5_v6, keep4_v6, keep3_arg1, keep2_arg1, keep1_arg1, keep0_arg1, read_v6, keep2_v0, keep1_v0, read_v0]

end Cert.KernelIdeal.Loss

end
-- ==== Proof.Math.Scalar.lean ====
/- The pair's terms on the extended reals: which of two entries is the larger by the threshold, the difference of two
   logistics, and the three terms the loss adds up: the log term, the square and the count. A pair of equal entries has
   no log term, no square and no count, so padding every pair with equal entries changes no sum. -/
module

public import Idealize.ShloMosaic.Lib.IdealHost
public import Idealize.ShloMosaic.Lib.ValueIdx
public import Idealize.ShloMosaic.Lib.Pointwise.Sums
public import Idealize.ShloMosaic.PureOps.Ideal.Laws

@[expose] public section

noncomputable section

namespace Cert.LossMath

open Idealize.ShloMosaic

/-- The threshold, 1.02 as printed. -/
abbrev theta : EReal := Ideal.ofBits .f32 0x3F828F5C#32

/-- The target of a pair: −1 if the second is larger than the first by the threshold, else 1 if the first is, else 0. -/
def target (a b : EReal) : EReal :=
  Scalar.select (Ideal.cmp .ogt (Ideal.div b a) theta) (Ideal.ofBits .f32 0xBF800000#32)
    (Scalar.select (Ideal.cmp .ogt (Ideal.div a b) theta) (Ideal.ofBits .f32 0x3F800000#32) (Ideal.ofBits .f32 0x00000000#32))

/-- Whether the pair has a target. -/
def differ (a b : EReal) : BitVec 1 := Ideal.cmp .one (target a b) (Ideal.ofBits .f32 0x00000000#32)

/-- The difference of the two scores' logistics. -/
def depth (x y : EReal) : EReal := Ideal.logistic x - Ideal.logistic y

/-- The log term of a pair with a target. -/
def logTerm (a b x y : EReal) : EReal :=
  Scalar.select (differ a b) (Ideal.log (1 + Ideal.exp (-target a b * depth x y))) 0

/-- The square of a pair without a target. -/
def sqTerm (a b x y : EReal) : EReal := Scalar.select (differ a b) 0 (depth x y * depth x y)

/-- One for a pair with a target, zero for a pair without. -/
def count (a b : EReal) : ℝ := ((differ a b).toNat : ℝ)

/-- The threshold is more than one. -/
theorem one_lt_theta : (1 : EReal) < theta := by
  have h : theta = ((8556380 / 8388608 : ℝ) : EReal) := by
    simp [theta, Ideal.ofBits, Ideal.ieee, -EReal.coe_mul]; norm_num
  rw [h, show (1 : EReal) = ((1 : ℝ) : EReal) by norm_cast, EReal.coe_lt_coe_iff]
  norm_num

/-- Nothing divided by itself is more than the threshold. -/
theorem div_self_not (a : EReal) : ¬theta < Ideal.div a a := by
  refine not_lt.mpr (le_trans ?_ one_lt_theta.le)
  unfold Ideal.div
  split_ifs with h h'
  · exact absurd h' (by rw [h]; exact lt_irrefl _)
  · exact bot_le
  · induction a with
    | bot => simp
    | top => simp
    | coe r =>
      have hr : r ≠ 0 := fun e => h (by rw [e]; rfl)
      rw [← EReal.coe_inv, ← EReal.coe_mul, mul_inv_cancel₀ hr]
      rfl

/-- A pair of equal entries has no target. -/
theorem differ_self (a : EReal) : differ a a = 0#1 := by
  have h : Ideal.cmp .ogt (Ideal.div a a) theta = 0#1 := by
    simp [Ideal.cmp, div_self_not a]
  unfold differ target
  rw [h, ValueIdx.select_zero, ValueIdx.select_zero]
  simp [Ideal.cmp]

/-- The difference of a logistic and itself is zero. -/
theorem depth_self (x : EReal) : depth x x = 0 := by
  unfold depth
  induction x with
  | bot => simp
  | top => rw [Ideal.logistic_top, ← EReal.coe_one, ← EReal.coe_sub]; simp
  | coe r => rw [Ideal.logistic_coe, ← EReal.coe_sub]; simp

/-- An entry paired with itself has no log term. -/
theorem logTerm_self (a x : EReal) : logTerm a a x x = 0 := by
  unfold logTerm; rw [differ_self, ValueIdx.select_zero]

/-- An entry paired with itself adds no square. -/
theorem sqTerm_self (a x : EReal) : sqTerm a a x x = 0 := by
  unfold sqTerm; rw [differ_self, ValueIdx.select_zero, depth_self, mul_zero]

/-- An entry paired with itself is not counted. -/
theorem count_self (a : EReal) : count a a = 0 := by
  unfold count; rw [differ_self]; norm_num

/-- 2000000 as printed. -/
theorem ofBits_total : Ideal.ofBits .f32 0x49F42400#32 = ((2000000 : ℝ) : EReal) := by
  simp [Ideal.ofBits, Ideal.ieee, -EReal.coe_mul]; norm_num

/-- A bit widened and read as a signed number is the bit as a number. -/
theorem toInt_setWidth (b : BitVec 1) : (((b.setWidth 32).toInt : ℝ)) = (b.toNat : ℝ) := by
  obtain rfl | rfl : b = 0#1 ∨ b = 1#1 := by
    revert b; decide
  · simp
  · norm_num

/-- A bit's complement as a number. -/
theorem toNat_not (b : BitVec 1) : (((~~~b).toNat : ℝ)) = 1 - (b.toNat : ℝ) := by
  obtain rfl | rfl : b = 0#1 ∨ b = 1#1 := by
    revert b; decide
  · norm_num
  · norm_num

/-- Choosing by the complement of a bit is choosing the other way round by the bit. -/
theorem select_not {α : Type} (b : BitVec 1) (x y : α) : Scalar.select (~~~b) x y = Scalar.select b y x := by
  obtain rfl | rfl : b = 0#1 ∨ b = 1#1 := by
    revert b; decide
  · rfl
  · rfl

/-- A finite sum of reals, each read as an extended real, is the sum read as one. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The pairs without a target are the pairs less those with one. -/
theorem count_rest {N : ℕ} (f : Fin N → ℝ) :
    ∑ i, (((1 - f i : ℝ)) : EReal) = ((N : ℝ) : EReal) - ∑ i, ((f i : ℝ) : EReal) := by
  rw [sum_coe, sum_coe, ← EReal.coe_sub]
  simp

/-- The loss, of the three sums. -/
def loss (sumLog sumSq sumCount : EReal) : EReal :=
  Ideal.div sumLog (max sumCount 1) + Ideal.div sumSq (max (((2000000 : ℝ) : EReal) - sumCount) 1)

/-- A sum over 128 blocks of 128 rows of 128, of which only the first 2000000 entries are not zero, is their sum. -/
theorem sum_blocks (f : Fin 2097152 → EReal) (g : Fin 2000000 → EReal)
    (hg : ∀ (p : Fin 2097152) (h : p.val < 2000000), f p = g ⟨p.val, h⟩) (h0 : ∀ p : Fin 2097152, ¬p.val < 2000000 → f p = 0) :
    ∑ t : Fin 128, ∑ r : Fin 128, ∑ l : Fin 128,
        f ⟨(t.val * 128 + r.val) * 128 + l.val, by have := t.isLt; have := r.isLt; have := l.isLt; omega⟩ = ∑ k, g k := by
  have e : ∑ p, f p = ∑ k, g k := by
    rw [Fin.sum_univ_two_halves 2000000 97152 (by norm_num) f]
    rw [Finset.sum_eq_zero (s := (Finset.univ : Finset (Fin 97152))) (fun k _ => h0 _ (by dsimp only; omega)), add_zero]
    exact Finset.sum_congr rfl fun k _ => hg _ k.isLt
  rw [← e, Fin.sum_univ_tiles 16384 128 (by norm_num) f,
    Fin.sum_univ_tiles 128 128 (by norm_num) (fun j : Fin 16384 => ∑ l : Fin 128, f ⟨j.val * 128 + l.val, by have := j.isLt; have := l.isLt; omega⟩)]

end Cert.LossMath

end
-- ==== Proof.Math.Tables.lean ====
/- Tables of 32-bit words read entry by entry: the payload of a sort of the positions is a permutation of them; a take
   whose indices are all in range reads the table at them; a scatter at a permutation of the positions places every
   update once. Each statement is for any extent. -/
module

public import Idealize.ShloMosaic.Lib.SortFacts
public import Idealize.ShloMosaic.Lib.ReduceAll
public import Idealize.ShloMosaic.Lib.IdealHost
public import Idealize.ShloMosaic.Lib.Routing.Shapes
public import Idealize.ShloMosaic.Lib.Routing.Ops
public import Idealize.ShloMosaic.Lib.Routing.OpsSearch
public import Idealize.ShloMosaic.Lib.Routing.OpsSet
public import Idealize.ShloMosaic.Lib.StableHlo.Predicate

@[expose] public section

noncomputable section

namespace Cert.LossMath

open Idealize.ShloMosaic Idealize.ShloMosaic.ValueIdx Idealize.ShloMosaic.Routing

/-- A sort of two keys with the positions as payload leaves a permutation of the positions. -/
theorem sort_perm {N : ℕ} {α β : Type} (cmp : α × β × BitVec 32 → α × β × BitVec 32 → BitVec 1)
    (x : (shape1 N).Idx → α) (y : (shape1 N).Idx → β) (d : Fin (shape1 N).rank) :
    ∃ σ : Equiv.Perm (Fin N), ∀ p : Fin N,
      (Host.sort3 (shape1 N) 0 cmp x y (iotaInDim (shape1 N) 32 d)).2.2 (ix1 p) = BitVec.ofNat 32 (σ p).val := by
  refine ⟨Equiv.ofBijective (sortedFrom (fun k k' : Fin N =>
      cmp (x (ix1 k), y (ix1 k), iotaInDim (shape1 N) 32 d (ix1 k))
        (x (ix1 k'), y (ix1 k'), iotaInDim (shape1 N) 32 d (ix1 k')) == 1#1))
    ⟨sortedFrom_injective _, sortedFrom_surjective _⟩, fun p => ?_⟩
  have hd : 0 < (shape1 N).rank := Nat.one_pos
  have hd0 : d = (0 : Fin 1) := Subsingleton.elim _ _
  subst hd0
  have e : ∀ (j : (shape1 N).Idx) (k : Fin N), j.along (⟨0, hd⟩ : Fin (shape1 N).rank) k = ix1 k := fun j k =>
    (Shape.Idx.along_rank1 j k).trans (ofFin_eq_ix1 k)
  unfold Host.sort3
  rw [dif_pos hd]
  refine (congrArg (iotaInDim (shape1 N) 32 (0 : Fin 1)) (e _ _)).trans ?_
  refine congrArg (fun f : Fin N → Fin N → Bool => BitVec.ofNat 32 (sortedFrom f p).val) (funext fun k => funext fun k' => ?_)
  exact congrArg₂ (fun a b => cmp (x a, y a, iotaInDim (shape1 N) 32 (0 : Fin 1) a)
    (x b, y b, iotaInDim (shape1 N) 32 (0 : Fin 1) b) == 1#1) (e _ k) (e _ k')

/-- A word below 2³¹ is not negative, so wrapping negative indices leaves it. -/
theorem wrap_col {n : ℕ} (h : (shape1 n).BroadcastsInDim (shape2 n 1) (![0] : Fin 1 → Fin (shape2 n 1).rank))
    (v z w : IVec (shape1 n) 32) (p : Fin n) (k : ℕ) (hk : k < 2 ^ 31) (hv : v (ix1 p) = BitVec.ofNat 32 k)
    (hz : z (ix1 p) = 0#32) :
    broadcastInDim (shape2 n 1) ![0] h (select (cmpi .slt v z) (addi v w) v) (ix2 p (0 : Fin 1)) = BitVec.ofNat 32 k := by
  rw [bcCol, select_apply]
  have hc : cmpi .slt v z (ix1 p) ≠ 1#1 := by
    show BitVec.ofBool ((v (ix1 p)).slt (z (ix1 p))) ≠ 1#1
    rw [hv, hz]
    intro hh
    have := (StableHlo.Predicate.slt_ofNat_iff k 0 hk (by norm_num)).mp hh
    omega
  rw [eq_zero_of_ne_one hc, select_zero, hv]

/-- A take guarded by "every index is in range", with every index in range: entry `p` is the table's entry there. -/
theorem take_full {N n : ℕ} {α : Type} (d : GatherDims (shape1 N) (shape2 n 1) (shape1 n)) (hcoll : d.collapsedSliceDims = [0])
    (hob : d.operandBatchingDims = []) (hsim : d.startIndexMap = [0]) (hivd : d.indexVectorDim = 1) (hN : N ≤ 2 ^ 31)
    (tbl : (shape1 N).Idx → α) (col lo hi : IVec (shape2 n 1) 32) (hlo : ∀ p : Fin n, lo (ix2 p (0 : Fin 1)) = 0#32)
    (hhi : ∀ p : Fin n, hi (ix2 p (0 : Fin 1)) = BitVec.ofNat 32 (N - 1)) (k : Fin n → Fin N)
    (hcol : ∀ p : Fin n, col (ix2 p (0 : Fin 1)) = BitVec.ofNat 32 (k p).val) {u : Shape} (init : u.Idx → BitVec 1) {axes : List (Fin (shape2 n 1).rank)}
    (hr : (shape2 n 1).ReducesTo axes (shape1 n)) (hu : 0 < u.numel) (hi1 : init (Shape.Idx.first hu) = 1#1)
    (fill : (shape1 n).Idx → α) (p : Fin n) :
    select (Host.reduce IntOp.andi (andi (cmpi .sge col lo) (cmpi .sle col hi)) init hr hu) (Host.gather d tbl col) fill (ix1 p)
      = tbl (ix1 (k p)) := by
  have hin : Host.reduce IntOp.andi (andi (cmpi .sge col lo) (cmpi .sle col hi)) init hr hu (ix1 p) = 1#1 := by
    refine Host.reduce_andi_one _ _ hr hu _ hi1 fun i => ?_
    obtain ⟨q, rfl⟩ : ∃ q : Fin n, i = ix2 q (0 : Fin 1) := by
      refine ⟨i 0, (eq_ix2 i).trans (congrArg (fun b : Fin 1 => ix2 (i 0 : Fin n) b) ?_)⟩
      exact Subsingleton.elim (α := Fin 1) _ _
    have hk := (k q).isLt
    have h1 : cmpi .sge col lo (ix2 q (0 : Fin 1)) = 1#1 := by
      show BitVec.ofBool ((lo (ix2 q (0 : Fin 1))).sle (col (ix2 q (0 : Fin 1)))) = 1#1
      rw [hlo, hcol]
      exact (StableHlo.Predicate.sle_ofNat_iff 0 _ (by norm_num) (by omega)).mpr (Nat.zero_le _)
    have h2 : cmpi .sle col hi (ix2 q (0 : Fin 1)) = 1#1 := by
      show BitVec.ofBool ((col (ix2 q (0 : Fin 1))).sle (hi (ix2 q (0 : Fin 1)))) = 1#1
      rw [hhi, hcol]
      exact (StableHlo.Predicate.sle_ofNat_iff _ _ (by omega) (by omega)).mpr (by omega)
    show IntOp.andi (cmpi .sge col lo (ix2 q (0 : Fin 1))) (cmpi .sle col hi (ix2 q (0 : Fin 1))) = 1#1
    rw [h1, h2]
    rfl
  rw [select_apply, hin, select_one]
  exact take_ap d hcoll hob hsim hivd tbl col p (k p).isLt (by have := (k p).isLt; omega) (hcol p)

/-- A scatter whose indices are a permutation `σ` of the positions and whose updates are the words of `ρ`: entry `i` is
    the update sent there, the word of `ρ` at the one position `σ` sends to `i`. -/
theorem scatter_perm {N : ℕ} (d : ScatterDims (shape1 N) (shape2 N 1) (shape1 N)) (hiw : d.insertedWindowDims = [0])
    (hsd : d.scatterDimsToOperandDims = [0]) (hivd : d.indexVectorDim = 1) (hN : N ≤ 2 ^ 31) (x0 : IVec (shape1 N) 32)
    (idx : IVec (shape2 N 1) 32) (upd : IVec (shape1 N) 32) (σ ρ : Equiv.Perm (Fin N))
    (hidx : ∀ p : Fin N, idx (ix2 p (0 : Fin 1)) = BitVec.ofNat 32 (σ p).val)
    (hupd : ∀ p : Fin N, upd (ix1 p) = BitVec.ofNat 32 (ρ p).val) (i : Fin N) :
    Host.scatter d (fun _ b => b) x0 idx upd (ix1 i) = BitVec.ofNat 32 (ρ (σ.symm i)).val := by
  have hlt : ∀ p : Fin N, (σ p).val < 2 ^ 31 := fun p => by have := (σ p).isLt; omega
  refine (scatter_set d hiw hsd hivd x0 idx upd (fun n => if h : n < N then (σ ⟨n, h⟩).val else 0)
    (fun p => by simp only [p.isLt, dif_pos, Fin.eta]; exact hidx p)
    (fun p => by simp only [p.isLt, dif_pos, Fin.eta]; exact hlt p) i _ (fun p hp => ?_)).1 ⟨σ.symm i, by simp⟩
  simp only [p.isLt, dif_pos, Fin.eta] at hp
  have : p = σ.symm i := by rw [← Fin.ext hp, Equiv.symm_apply_apply]
  rw [this]
  exact hupd _

end Cert.LossMath

end
-- ==== Proof.Ideal.Value.lean ====
/- What the pipelined region computes, on the extended reals: each point adds its block's three sums to the running
   ones, so the result's one word is the loss of the three sums over every entry of the four arrays. -/
module

public import proofs.«01_k».proof.Proof.Ideal.Run
public import proofs.«01_k».proof.Proof.Ideal.Host
public import proofs.«01_k».proof.Proof.Math.Scalar
public import proofs.«01_k».proof.Proof.Math.Tables
public import Idealize.ShloMosaic.Lib.Pipeline.ValueKit
public import Idealize.ShloMosaic.PureOps.Ideal.Laws

@[expose] public section

set_option maxRecDepth 16384

noncomputable section

namespace Cert.KernelIdeal.Loss

open Idealize.ShloMosaic hiding ix0 ix1 ix2 ix3 sum_idx2 sum_idx3
open Idealize.ShloMosaic.TcCoe Idealize.ShloMosaic.ValueIdx Idealize.ShloMosaic.Routing Idealize.SL.Sem
open Idealize.ShloMosaic.Pipeline (Dat)
open Cert.KernelIdeal Cert.KernelIdeal.Gen Cert.LossMath

/-- A block's total, as the body takes it: the sum over its rows of the sums over their entries. -/
theorem block_total (v : FVec Ideal S128x128 .f32) :
    (extractAt ![0, 0, 0] (shapeCast S1x1x1 (multiReduction .add [1, 2] S1 (shapeCast S1x128x128 v shapeCasts_S128x128_S1x128x128)
        0x00000000#32 reduces_S1x128x128_S1 (.inl rfl) rfl) shapeCasts_S1_S1x1x1) inpos_S1x1x1_p0_0_0 : EReal)
      = ∑ r : Fin 128, ∑ l : Fin 128, v (ix2 r l) := by
  unfold extractAt
  rw [shapeCast_apply _ shapeCasts_S1_S1x1x1 _ (ix1 (0 : Fin 1)) (by rfl)]
  refine (Ideal.multiReduction_add_total _ _ _ (by decide) _ _ _).trans ?_
  refine (Idealize.ShloMosaic.sum_idx3 _).trans ?_
  rw [Fin.sum_univ_one]
  refine Finset.sum_congr rfl fun r _ => Finset.sum_congr rfl fun l _ => ?_
  refine shapeCast_apply v shapeCasts_S128x128_S1x128x128 _ (ix2 r l) ?_
  rw [Shape.rowMajor_val_two, Shape.rowMajor_val_three]
  show r.val * 128 + l.val = (0 * 128 + r.val) * 128 + l.val
  omega

variable (x0 x1 x2 x3 : Vec Ideal S128x128 .f32) (xs : Vec Ideal S4 .f32)

/-- The body's target, at an entry. -/
theorem pay5_apply (i : S128x128.Idx) : k0_pay5 x0 x1 i = target (x0 i) (x1 i) := by
  unfold k0_pay5
  simp only [shapeCast_self]
  rfl

/-- The body's difference of logistics, at an entry. -/
theorem pay6_apply (i : S128x128.Idx) : k0_pay6 x2 x3 i = depth (x2 i) (x3 i) := by
  unfold k0_pay6
  simp only [shapeCast_self]
  rfl

/-- The body's test for a target, at an entry. -/
theorem pay7_apply (i : S128x128.Idx) : k0_pay7 x0 x1 i = differ (x0 i) (x1 i) := by
  unfold k0_pay7 differ
  rw [← pay5_apply]
  rfl

/-- A point adds its block's log terms to the first word. -/
theorem step_log : (step x0 x1 x2 x3 xs (cell 0 (by decide)) : EReal)
    = xs (cell 0 (by decide)) + ∑ r : Fin 128, ∑ l : Fin 128, logTerm (x0 (ix2 r l)) (x1 (ix2 r l)) (x2 (ix2 r l)) (x3 (ix2 r l)) := by
  show k0_pay1 (xs (cell 0 (by decide))) (k0_pay8 x0 x1 x2 x3) = _
  unfold k0_pay1 k0_pay8
  refine congrArg (fun s : EReal => xs (cell 0 (by decide)) + s) ((block_total _).trans ?_)
  refine Finset.sum_congr rfl fun r _ => Finset.sum_congr rfl fun l _ => ?_
  show Scalar.select (k0_pay7 x0 x1 (ix2 r l)) (Ideal.log (Ideal.ofBits .f32 0x3F800000#32
      + Ideal.exp ((Ideal.ofBits .f32 0x00000000#32 - k0_pay5 x0 x1 (ix2 r l)) * k0_pay6 x2 x3 (ix2 r l)))) (Ideal.ofBits .f32 0x00000000#32) = _
  rw [pay7_apply, pay5_apply, pay6_apply, Ideal.ofBits_one_f32, Ideal.ofBits_zero_f32, zero_sub]
  rfl

/-- A point adds its block's squares to the second word. -/
theorem step_sq : (step x0 x1 x2 x3 xs (cell 1 (by decide)) : EReal)
    = xs (cell 1 (by decide)) + ∑ r : Fin 128, ∑ l : Fin 128, sqTerm (x0 (ix2 r l)) (x1 (ix2 r l)) (x2 (ix2 r l)) (x3 (ix2 r l)) := by
  show k0_pay2 (k0_pay6 x2 x3) (k0_pay7 x0 x1) (xs (cell 1 (by decide))) = _
  unfold k0_pay2
  refine congrArg (fun s : EReal => xs (cell 1 (by decide)) + s) ((block_total _).trans ?_)
  refine Finset.sum_congr rfl fun r _ => Finset.sum_congr rfl fun l _ => ?_
  show Scalar.select (k0_pay7 x0 x1 (ix2 r l)) (Ideal.ofBits .f32 0x00000000#32)
      (k0_pay6 x2 x3 (ix2 r l) * k0_pay6 x2 x3 (ix2 r l)) = _
  rw [pay7_apply, pay6_apply, Ideal.ofBits_zero_f32]
  rfl

/-- A point adds its block's count to the third word. -/
theorem step_count : (step x0 x1 x2 x3 xs (cell 2 (by decide)) : EReal)
    = xs (cell 2 (by decide)) + ∑ r : Fin 128, ∑ l : Fin 128, ((count (x0 (ix2 r l)) (x1 (ix2 r l)) : ℝ) : EReal) := by
  show k0_pay3 (k0_pay7 x0 x1) (xs (cell 2 (by decide))) = _
  unfold k0_pay3
  refine congrArg (fun s : EReal => xs (cell 2 (by decide)) + s) ((block_total _).trans ?_)
  refine Finset.sum_congr rfl fun r _ => Finset.sum_congr rfl fun l _ => ?_
  show ((((k0_pay7 x0 x1 (ix2 r l)).setWidth 32).toInt : ℝ) : EReal) = _
  rw [pay7_apply, toInt_setWidth]
  rfl

/-- The last point stores the loss of the three words. -/
theorem result_apply (i : S1x1.Idx) : (result xs i : EReal)
    = loss (xs (cell 0 (by decide))) (xs (cell 1 (by decide))) (xs (cell 2 (by decide))) := by
  show Ideal.div _ (max _ (Ideal.ofBits .f32 0x3F800000#32)) + Ideal.div _ (max (Ideal.ofBits .f32 0x49F42400#32 - _) (Ideal.ofBits .f32 0x3F800000#32)) = _
  rw [Ideal.ofBits_one_f32, ofBits_total]
  rfl

end Cert.KernelIdeal.Loss
-- ==== Proof.Ideal.Blocks.lean ====
/- The blocks the pipelined region reads, and its result array: each window's block at point `t` is rows `128 t` on of
   its array, and the one output word is written back once, after the last point. -/
module

public import proofs.«01_k».proof.Proof.Ideal.Run
public import proofs.«01_k».proof.Proof.Ideal.Host
public import proofs.«01_k».proof.Proof.Math.Scalar
public import proofs.«01_k».proof.Proof.Math.Tables
public import Idealize.ShloMosaic.Lib.Pipeline.ValueKit
public import Idealize.ShloMosaic.PureOps.Ideal.Laws

@[expose] public section

set_option maxRecDepth 16384

noncomputable section

namespace Cert.KernelIdeal.Loss

open Idealize.ShloMosaic hiding ix0 ix1 ix2 ix3 sum_idx2 sum_idx3
open Idealize.ShloMosaic.TcCoe Idealize.ShloMosaic.ValueIdx Idealize.ShloMosaic.Routing Idealize.SL.Sem
open Idealize.ShloMosaic.Pipeline (Dat)
open Cert.KernelIdeal Cert.KernelIdeal.Gen Cert.LossMath

variable {F : FTy → Type} [FloatOps F] (m : (ℓ : Loc nD τ sig) → Buf (Elt F) ℓ) (c : Dev nD)

/-- Window 0's block at point `t`, of any contents `A` of its array: rows `128 t` on. -/
theorem block0_apply (A : FVec F S16384x128 .f32) (t : Fin cfg0.N) (r l : Fin 128) (q : Fin 16384)
    (hq : q.val = t.val * 128 + r.val) :
    (((cfg0.win 0).blk t).view.read (Elt F) A : FVec F S128x128 .f32) (ix2 r l) = A (ix2 q l) := by
  have ht : t.val < 128 := lt_of_lt_of_eq t.isLt (show cfg0.N = 128 from N_0)
  have e0 : (grid0.coords t 0).val = t.val / 1 % 128 := Pipeline.Grid.coords_val t 0 (by decide) rfl
  have hi : win0_0.index t 0 = t.val := by
    show (BitVec.ofNat 32 (grid0.coords t 0).val).toNat = t.val
    rw [e0, BitVec.toNat_ofNat]
    omega
  have hj : win0_0.index t 1 = 0 := rfl
  refine (View.read_apply _ _).trans ?_
  show A _ = A _
  refine congrArg A ?_
  funext a
  apply Fin.ext
  match a with
  | ⟨0, _⟩ => show win0_0.index t 0 * 128 + 1 * r.val = q.val; rw [hi]; omega
  | ⟨1, _⟩ => show win0_0.index t 1 * 128 + 1 * l.val = l.val; rw [hj]; omega

/-- Window 0's block at point `t` of the region: rows `128 t` on of `v11`. -/
theorem iblk0_apply (t : Fin cfg0.N) (r l : Fin 128) (q : Fin 16384) (hq : q.val = t.val * 128 + r.val) :
    (iblk m c 0 t : FVec F S128x128 .f32) (ix2 r l) = (V m c main_v11 : FVec F S16384x128 .f32) (ix2 q l) :=
  block0_apply _ t r l q hq

/-- Window 1's block at point `t`, of any contents `A` of its array: rows `128 t` on. -/
theorem block1_apply (A : FVec F S16384x128 .f32) (t : Fin cfg0.N) (r l : Fin 128) (q : Fin 16384)
    (hq : q.val = t.val * 128 + r.val) :
    (((cfg0.win 1).blk t).view.read (Elt F) A : FVec F S128x128 .f32) (ix2 r l) = A (ix2 q l) := by
  have ht : t.val < 128 := lt_of_lt_of_eq t.isLt (show cfg0.N = 128 from N_0)
  have e0 : (grid0.coords t 0).val = t.val / 1 % 128 := Pipeline.Grid.coords_val t 0 (by decide) rfl
  have hi : win0_1.index t 0 = t.val := by
    show (BitVec.ofNat 32 (grid0.coords t 0).val).toNat = t.val
    rw [e0, BitVec.toNat_ofNat]
    omega
  have hj : win0_1.index t 1 = 0 := rfl
  refine (View.read_apply _ _).trans ?_
  show A _ = A _
  refine congrArg A ?_
  funext a
  apply Fin.ext
  match a with
  | ⟨0, _⟩ => show win0_1.index t 0 * 128 + 1 * r.val = q.val; rw [hi]; omega
  | ⟨1, _⟩ => show win0_1.index t 1 * 128 + 1 * l.val = l.val; rw [hj]; omega

/-- Window 1's block at point `t` of the region: rows `128 t` on of `v12`. -/
theorem iblk1_apply (t : Fin cfg0.N) (r l : Fin 128) (q : Fin 16384) (hq : q.val = t.val * 128 + r.val) :
    (iblk m c 1 t : FVec F S128x128 .f32) (ix2 r l) = (V m c main_v12 : FVec F S16384x128 .f32) (ix2 q l) :=
  block1_apply _ t r l q hq

/-- Window 2's block at point `t`, of any contents `A` of its array: rows `128 t` on. -/
theorem block2_apply (A : FVec F S16384x128 .f32) (t : Fin cfg0.N) (r l : Fin 128) (q : Fin 16384)
    (hq : q.val = t.val * 128 + r.val) :
    (((cfg0.win 2).blk t).view.read (Elt F) A : FVec F S128x128 .f32) (ix2 r l) = A (ix2 q l) := by
  have ht : t.val < 128 := lt_of_lt_of_eq t.isLt (show cfg0.N = 128 from N_0)
  have e0 : (grid0.coords t 0).val = t.val / 1 % 128 := Pipeline.Grid.coords_val t 0 (by decide) rfl
  have hi : win0_2.index t 0 = t.val := by
    show (BitVec.ofNat 32 (grid0.coords t 0).val).toNat = t.val
    rw [e0, BitVec.toNat_ofNat]
    omega
  have hj : win0_2.index t 1 = 0 := rfl
  refine (View.read_apply _ _).trans ?_
  show A _ = A _
  refine congrArg A ?_
  funext a
  apply Fin.ext
  match a with
  | ⟨0, _⟩ => show win0_2.index t 0 * 128 + 1 * r.val = q.val; rw [hi]; omega
  | ⟨1, _⟩ => show win0_2.index t 1 * 128 + 1 * l.val = l.val; rw [hj]; omega

/-- Window 2's block at point `t` of the region: rows `128 t` on of `v13`. -/
theorem iblk2_apply (t : Fin cfg0.N) (r l : Fin 128) (q : Fin 16384) (hq : q.val = t.val * 128 + r.val) :
    (iblk m c 2 t : FVec F S128x128 .f32) (ix2 r l) = (V m c main_v13 : FVec F S16384x128 .f32) (ix2 q l) :=
  block2_apply _ t r l q hq

/-- Window 3's block at point `t`, of any contents `A` of its array: rows `128 t` on. -/
theorem block3_apply (A : FVec F S16384x128 .f32) (t : Fin cfg0.N) (r l : Fin 128) (q : Fin 16384)
    (hq : q.val = t.val * 128 + r.val) :
    (((cfg0.win 3).blk t).view.read (Elt F) A : FVec F S128x128 .f32) (ix2 r l) = A (ix2 q l) := by
  have ht : t.val < 128 := lt_of_lt_of_eq t.isLt (show cfg0.N = 128 from N_0)
  have e0 : (grid0.coords t 0).val = t.val / 1 % 128 := Pipeline.Grid.coords_val t 0 (by decide) rfl
  have hi : win0_3.index t 0 = t.val := by
    show (BitVec.ofNat 32 (grid0.coords t 0).val).toNat = t.val
    rw [e0, BitVec.toNat_ofNat]
    omega
  have hj : win0_3.index t 1 = 0 := rfl
  refine (View.read_apply _ _).trans ?_
  show A _ = A _
  refine congrArg A ?_
  funext a
  apply Fin.ext
  match a with
  | ⟨0, _⟩ => show win0_3.index t 0 * 128 + 1 * r.val = q.val; rw [hi]; omega
  | ⟨1, _⟩ => show win0_3.index t 1 * 128 + 1 * l.val = l.val; rw [hj]; omega

/-- Window 3's block at point `t` of the region: rows `128 t` on of `v14`. -/
theorem iblk3_apply (t : Fin cfg0.N) (r l : Fin 128) (q : Fin 16384) (hq : q.val = t.val * 128 + r.val) :
    (iblk m c 3 t : FVec F S128x128 .f32) (ix2 r l) = (V m c main_v14 : FVec F S16384x128 .f32) (ix2 q l) :=
  block3_apply _ t r l q hq

/-- The result array after the run: what the last point stores. -/
theorem array_out : (dats m 0 c).arrAt 4 cfg0.N = out m c := by
  refine (dats m 0 c).arrAt_eq_of_after_last 4 ⟨127, by rw [show cfg0.N = 128 from N_0]; decide⟩ (by decide +kernel) _ fun j => ?_
  blk_simp
  exact congrFun (after0_4 m c _) j

end Cert.KernelIdeal.Loss
-- ==== Proof.Ideal.Taken.lean ====
/- The takes at coordinates: with an order of the positions padded by zeros, an entry taken at place `p` is the table's
   entry at the order's place `p`, and past the order's end the table's first entry. -/
module

public import proofs.«01_k».proof.Proof.Ideal.Run
public import proofs.«01_k».proof.Proof.Ideal.Host
public import proofs.«01_k».proof.Proof.Math.Scalar
public import proofs.«01_k».proof.Proof.Math.Tables
public import Idealize.ShloMosaic.Lib.Pipeline.ValueKit
public import Idealize.ShloMosaic.PureOps.Ideal.Laws

@[expose] public section

set_option maxRecDepth 16384

noncomputable section

namespace Cert.KernelIdeal.Loss

open Idealize.ShloMosaic hiding ix0 ix1 ix2 ix3 sum_idx2 sum_idx3
open Idealize.ShloMosaic.TcCoe Idealize.ShloMosaic.ValueIdx Idealize.ShloMosaic.Routing Idealize.SL.Sem
open Idealize.ShloMosaic.Pipeline (Dat)
open Cert.KernelIdeal Cert.KernelIdeal.Gen Cert.LossMath

variable {F : FTy → Type} [FloatOps F]

/-- An order's place `p`, and zero past its end. -/
def place (σ : Fin 2000000 → Fin 2000000) (p : Fin 2097152) : Fin 2000000 :=
  if h : p.val < 2000000 then σ ⟨p.val, h⟩ else ⟨0, by decide⟩

/-- Within the order, its entry. -/
theorem place_of_lt (σ : Fin 2000000 → Fin 2000000) (p : Fin 2097152) (h : p.val < 2000000) : place σ p = σ ⟨p.val, h⟩ := dif_pos h

/-- Past the order's end, zero. -/
theorem place_of_not (σ : Fin 2000000 → Fin 2000000) (p : Fin 2097152) (h : ¬p.val < 2000000) : place σ p = ⟨0, by decide⟩ := dif_neg h

/-- A padded order's entries. -/
theorem padded_apply (x : IVec S2000000 32) (σ : Fin 2000000 → Fin 2000000)
    (hx : ∀ p : Fin 2000000, x (ix1 p) = BitVec.ofNat 32 (σ p).val) (p : Fin 2097152) :
    padded x (ix1 p) = BitVec.ofNat 32 (place σ p).val := by
  unfold padded
  by_cases h : p.val < 2000000
  · rw [place_of_lt σ p h]
    refine (concatenate_pair_apply_left (t := S2097152) (s₁ := S2000000) (s₂ := S97152) _ _ _ _ (ix1 p) rfl (ix1 (⟨p.val, h⟩ : Fin 2000000)) fun b => ?_).trans (hx _)
    match b with
    | ⟨0, _⟩ => rfl
  · have hp := p.isLt
    rw [place_of_not σ p h]
    refine (concatenate_pair_apply_right (t := S2097152) (s₁ := S2000000) (s₂ := S97152) _ _ _ _ (ix1 p) rfl rfl (ix1 (⟨p.val - 2000000, by omega⟩ : Fin 97152)) (fun b hb => ?_) ?_).trans ?_
    · match b with
      | ⟨0, _⟩ => exact absurd rfl hb
    · show p.val - 2000000 + 2000000 = p.val
      omega
    · rfl

/-- The column of indices at a padded order. -/
theorem wrapped_apply (x : IVec S2097152 32) (k : Fin 2097152 → Fin 2000000)
    (hx : ∀ p, x (ix1 p) = BitVec.ofNat 32 (k p).val) (p : Fin 2097152) :
    wrapped x (ix2 p (0 : Fin 1)) = BitVec.ofNat 32 (k p).val := by
  unfold wrapped
  exact wrap_col _ _ _ _ p _ (by have := (k p).isLt; omega) (hx p) rfl

/-- The take at a padded order. -/
theorem taken_apply (tbl : FVec F S2000000 .f32) (x : IVec S2097152 32) (k : Fin 2097152 → Fin 2000000)
    (hx : ∀ p, x (ix1 p) = BitVec.ofNat 32 (k p).val) (p : Fin 2097152) :
    taken tbl x (ix1 p) = tbl (ix1 (k p)) := by
  unfold taken
  exact take_full gather_S2000000_S2097152x1_S2097152_n_0_n_n_0_1_1 rfl rfl rfl rfl (by norm_num) tbl (wrapped x) _ _
    (fun _ => rfl) (fun _ => rfl) k (wrapped_apply x k hx) _ _ _ rfl _ p

end Cert.KernelIdeal.Loss
-- ==== Proof.Ideal.Total.lean ====
/- The pipelined region's one result word as a function of the arrays as launched: the loss of the three sums, over the
   pairs of positions the two orders put in the same place. -/
module

public import proofs.«01_k».proof.Proof.Ideal.Run
public import proofs.«01_k».proof.Proof.Ideal.Host
public import proofs.«01_k».proof.Proof.Ideal.Value
public import proofs.«01_k».proof.Proof.Ideal.Blocks
public import proofs.«01_k».proof.Proof.Ideal.Taken
public import proofs.«01_k».proof.Proof.Math.Scalar
public import proofs.«01_k».proof.Proof.Math.Tables
public import Idealize.ShloMosaic.Lib.Pipeline.ValueKit
public import Idealize.ShloMosaic.PureOps.Ideal.Laws

@[expose] public section

set_option maxRecDepth 16384

noncomputable section

namespace Cert.KernelIdeal.Loss

open Idealize.ShloMosaic hiding ix0 ix1 ix2 ix3 sum_idx2 sum_idx3
open Idealize.ShloMosaic.TcCoe Idealize.ShloMosaic.ValueIdx Idealize.ShloMosaic.Routing Idealize.SL.Sem
open Idealize.ShloMosaic.Pipeline (Dat)
open Cert.KernelIdeal Cert.KernelIdeal.Gen Cert.LossMath

variable {F : FTy → Type} [FloatOps F] (m : (ℓ : Loc nD τ sig) → Buf (Elt F) ℓ) (c : Dev nD)

/-- A reshaped vector's entry at row `q` and lane `l`. -/
theorem row_apply (x : FVec F S2097152 .f32) (q : Fin 16384) (l : Fin 128) (p : Fin 2097152) (hp : p.val = q.val * 128 + l.val) :
    shapeCast S16384x128 x shapeCasts_S2097152_S16384x128 (ix2 q l) = x (ix1 p) :=
  cast12 _ _ _ l p hp

/-- Window 0's entry at point `t`, row `r`, lane `l`: the table's entry at the order's place. -/
theorem entry0 (σ : Fin 2000000 → Fin 2000000)
    (hσ : ∀ p : Fin 2000000, idOrder (ids m c) (ix1 p) = BitVec.ofNat 32 (σ p).val) (t : Fin cfg0.N) (r l : Fin 128) (q : Fin 16384) (p : Fin 2097152)
    (hq : q.val = t.val * 128 + r.val) (hp : p.val = q.val * 128 + l.val) :
    (iblk m c 0 t : FVec F S128x128 .f32) (ix2 r l) = ranks m c (ix1 (place σ p)) := by
  refine (iblk0_apply m c t r l q hq).trans ?_
  refine (congrFun (V_v11 m c) _).trans ?_
  refine (row_apply _ q l p hp).trans ?_
  exact taken_apply _ _ _ (padded_apply _ _ hσ) p

/-- Window 1's entry at point `t`, row `r`, lane `l`: the table's entry at the order's place. -/
theorem entry1 (ρ : Fin 2000000 → Fin 2000000)
    (hρ : ∀ p : Fin 2000000, randOrder (ids m c) (keys m c) (ix1 p) = BitVec.ofNat 32 (ρ p).val) (t : Fin cfg0.N) (r l : Fin 128) (q : Fin 16384) (p : Fin 2097152)
    (hq : q.val = t.val * 128 + r.val) (hp : p.val = q.val * 128 + l.val) :
    (iblk m c 1 t : FVec F S128x128 .f32) (ix2 r l) = ranks m c (ix1 (place ρ p)) := by
  refine (iblk1_apply m c t r l q hq).trans ?_
  refine (congrFun (V_v12 m c) _).trans ?_
  refine (row_apply _ q l p hp).trans ?_
  exact taken_apply _ _ _ (padded_apply _ _ hρ) p

/-- Window 2's entry at point `t`, row `r`, lane `l`: the table's entry at the order's place. -/
theorem entry2 (σ : Fin 2000000 → Fin 2000000)
    (hσ : ∀ p : Fin 2000000, idOrder (ids m c) (ix1 p) = BitVec.ofNat 32 (σ p).val) (t : Fin cfg0.N) (r l : Fin 128) (q : Fin 16384) (p : Fin 2097152)
    (hq : q.val = t.val * 128 + r.val) (hp : p.val = q.val * 128 + l.val) :
    (iblk m c 2 t : FVec F S128x128 .f32) (ix2 r l) = scores m c (ix1 (place σ p)) := by
  refine (iblk2_apply m c t r l q hq).trans ?_
  refine (congrFun (V_v13 m c) _).trans ?_
  refine (row_apply _ q l p hp).trans ?_
  exact taken_apply _ _ _ (padded_apply _ _ hσ) p

/-- Window 3's entry at point `t`, row `r`, lane `l`: the table's entry at the order's place. -/
theorem entry3 (ρ : Fin 2000000 → Fin 2000000)
    (hρ : ∀ p : Fin 2000000, randOrder (ids m c) (keys m c) (ix1 p) = BitVec.ofNat 32 (ρ p).val) (t : Fin cfg0.N) (r l : Fin 128) (q : Fin 16384) (p : Fin 2097152)
    (hq : q.val = t.val * 128 + r.val) (hp : p.val = q.val * 128 + l.val) :
    (iblk m c 3 t : FVec F S128x128 .f32) (ix2 r l) = scores m c (ix1 (place ρ p)) := by
  refine (iblk3_apply m c t r l q hq).trans ?_
  refine (congrFun (V_v14 m c) _).trans ?_
  refine (row_apply _ q l p hp).trans ?_
  exact taken_apply _ _ _ (padded_apply _ _ hρ) p

/-- A word a point adds its block's total to holds, after `n` points, the sum of their totals. -/
theorem acc_word (m : (ℓ : Loc nD τ sig) → Buf (Elt Ideal) ℓ) (i : S4.Idx) (T : ℕ → EReal) (xs : Vec Ideal S4 .f32)
    (hz : (zeroed xs i : EReal) = 0)
    (hs : ∀ (t : Fin cfg0.N) (ys : Vec Ideal S4 .f32), (step (iblk m c 0 t) (iblk m c 1 t) (iblk m c 2 t) (iblk m c 3 t) ys i : EReal)
      = ys i + T t.val) : (n : ℕ) → (h : n ≤ cfg0.N) → (acc m c xs n h i : EReal) = ∑ t : Fin n, T t.val
  | 0, _ => by
    rw [Fin.sum_univ_zero]; exact hz
  | n + 1, h => by
    rw [Fin.sum_univ_castSucc]
    refine (hs ⟨n, h⟩ _).trans ?_
    exact congrArg (fun s : EReal => s + T n) (acc_word m i T xs hz hs n (Nat.le_of_succ_le h))

/-- The scratch after the last point, the points counted. -/
theorem acc_last (n : ℕ) (hn : cfg0.N = n) (xs : Vec F S4 .f32) : acc m c xs cfg0.N le_rfl = acc m c xs n hn.ge := by
  subst hn; rfl

/-- A row's number from its block and the row within it. -/
def row3 (t : ℕ) (r : Fin 128) (ht : t < 128) : Fin 16384 := ⟨t * 128 + r.val, by have := r.isLt; omega⟩

/-- A place's number from its block, row and lane. -/
def place3 (t : ℕ) (r l : Fin 128) (ht : t < 128) : Fin 2097152 :=
  ⟨(t * 128 + r.val) * 128 + l.val, by have := r.isLt; have := l.isLt; omega⟩

/-- A word a point adds its block's terms to ends at the sum over the pairs, when a position paired with itself adds nothing. -/
theorem word_total (m : (ℓ : Loc nD τ sig) → Buf (Elt Ideal) ℓ) (i : S4.Idx) (σ ρ : Fin 2000000 → Fin 2000000)
    (hσ : ∀ p : Fin 2000000, idOrder (ids m c) (ix1 p) = BitVec.ofNat 32 (σ p).val)
    (hρ : ∀ p : Fin 2000000, randOrder (ids m c) (keys m c) (ix1 p) = BitVec.ofNat 32 (ρ p).val)
    (term : EReal → EReal → EReal → EReal → EReal) (hself : ∀ a x, term a a x x = 0)
    (hz : ((zeroed zeros : Vec Ideal S4 .f32) i : EReal) = 0)
    (hs : ∀ (x0 x1 x2 x3 : Vec Ideal S128x128 .f32) (ys : Vec Ideal S4 .f32), (step x0 x1 x2 x3 ys i : EReal)
      = ys i + ∑ r : Fin 128, ∑ l : Fin 128, term (x0 (ix2 r l)) (x1 (ix2 r l)) (x2 (ix2 r l)) (x3 (ix2 r l))) :
    (acc m c zeros cfg0.N le_rfl i : EReal)
      = ∑ k : Fin 2000000, term (ranks m c (ix1 (σ k))) (ranks m c (ix1 (ρ k))) (scores m c (ix1 (σ k))) (scores m c (ix1 (ρ k))) := by
  have hN : cfg0.N = 128 := N_0
  rw [acc_last m c 128 hN]
  let f : Fin 2097152 → EReal := fun p => term (ranks m c (ix1 (place σ p))) (ranks m c (ix1 (place ρ p)))
    (scores m c (ix1 (place σ p))) (scores m c (ix1 (place ρ p)))
  refine (acc_word c m i (fun t => if ht : t < 128 then ∑ r : Fin 128, ∑ l : Fin 128, f (place3 t r l ht) else 0) zeros hz
    (fun t ys => ?_) 128 hN.ge).trans ?_
  · have ht : t.val < 128 := lt_of_lt_of_eq t.isLt hN
    rw [hs, dif_pos ht]
    refine congrArg (fun s : EReal => ys i + s) (Finset.sum_congr rfl fun r _ => Finset.sum_congr rfl fun l _ => ?_)
    rw [entry0 m c σ hσ t r l (row3 t.val r ht) (place3 t.val r l ht) rfl rfl, entry1 m c ρ hρ t r l (row3 t.val r ht) (place3 t.val r l ht) rfl rfl,
      entry2 m c σ hσ t r l (row3 t.val r ht) (place3 t.val r l ht) rfl rfl, entry3 m c ρ hρ t r l (row3 t.val r ht) (place3 t.val r l ht) rfl rfl]
  · refine Eq.trans (Finset.sum_congr rfl fun t _ => dif_pos t.isLt) ?_
    refine sum_blocks f _ (fun p h => ?_) (fun p h => ?_)
    · show term _ _ _ _ = _
      rw [place_of_lt σ p h, place_of_lt ρ p h]
    · show term _ _ _ _ = _
      rw [place_of_not σ p h, place_of_not ρ p h]
      exact hself _ _

/-- The result's one word: the loss of the three sums over the pairs of positions the two orders put in the same place. -/
theorem out_apply (m : (ℓ : Loc nD τ sig) → Buf (Elt Ideal) ℓ) (σ ρ : Fin 2000000 → Fin 2000000)
    (hσ : ∀ p : Fin 2000000, idOrder (ids m c) (ix1 p) = BitVec.ofNat 32 (σ p).val)
    (hρ : ∀ p : Fin 2000000, randOrder (ids m c) (keys m c) (ix1 p) = BitVec.ofNat 32 (ρ p).val) (i : S1x1.Idx) :
    (out m c i : EReal) = loss
      (∑ k : Fin 2000000, logTerm (ranks m c (ix1 (σ k))) (ranks m c (ix1 (ρ k))) (scores m c (ix1 (σ k))) (scores m c (ix1 (ρ k))))
      (∑ k : Fin 2000000, sqTerm (ranks m c (ix1 (σ k))) (ranks m c (ix1 (ρ k))) (scores m c (ix1 (σ k))) (scores m c (ix1 (ρ k))))
      (∑ k : Fin 2000000, ((count (ranks m c (ix1 (σ k))) (ranks m c (ix1 (ρ k))) : ℝ) : EReal)) := by
  unfold out
  rw [result_apply]
  have h0 := word_total c m (cell 0 (by decide)) σ ρ hσ hρ logTerm logTerm_self Ideal.ofBits_zero_f32 step_log
  have h1 := word_total c m (cell 1 (by decide)) σ ρ hσ hρ sqTerm sqTerm_self Ideal.ofBits_zero_f32 step_sq
  have h2 := word_total c m (cell 2 (by decide)) σ ρ hσ hρ (fun a b _ _ => ((count a b : ℝ) : EReal))
    (fun a _ => by rw [count_self]; rfl) Ideal.ofBits_zero_f32 step_count
  exact congr (congr (congrArg loss h0) h1) h2

end Cert.KernelIdeal.Loss
-- ==== Proof.Ref.Value.lean ====
/- What the reference computes, on the extended reals: entry `i` is paired with the entry the random order put where the
   ids' order put `i`; the result is the loss of the three sums over the pairs. -/
module

public import proofs.«01_k».proof.Proof.Gen.ReferenceIdeal
public import proofs.«01_k».proof.Proof.Gen.ReferenceIdeal.Run
public import proofs.«01_k».proof.Proof.Math.Scalar
public import proofs.«01_k».proof.Proof.Math.Tables
public import Idealize.ShloMosaic.Lib.Pointwise.Reduce
public import Idealize.ShloMosaic.PureOps.Ideal.Laws

@[expose] public section

set_option maxRecDepth 16384

noncomputable section

namespace Cert.ReferenceIdeal.Loss

open Idealize.ShloMosaic hiding ix0 ix1 ix2 ix3 sum_idx2 sum_idx3
open Idealize.ShloMosaic.TcCoe Idealize.ShloMosaic.ValueIdx Idealize.ShloMosaic.Routing Idealize.SL.Sem Idealize.ShloMosaic.StableHlo
open Cert.ReferenceIdeal Cert.ReferenceIdeal.Gen Cert.ReferenceIdeal.Value Cert.LossMath

variable (V0 : Valuation τ sig (Elt Ideal))

/-- The ranking entries as launched. -/
abbrev ranks : FVec Ideal S2000000 .f32 := V0 (Proc.devRef .tc main_arg0)
/-- The scores as launched. -/
abbrev scores : FVec Ideal S2000000 .f32 := V0 (Proc.devRef .tc main_arg1)
/-- The random keys as launched. -/
abbrev keys : FVec Ideal S2000000 .f32 := V0 (Proc.devRef .tc main_arg2)
/-- The ids as launched. -/
abbrev ids : IVec S2000000 32 := V0 (Proc.devRef .tc main_arg3)

/-- The positions in the order of the ids, ties by the random keys and then by position. -/
def randOrder (i : IVec S2000000 32) (k : FVec Ideal S2000000 .f32) : IVec S2000000 32 :=
  (Host.sort3 S2000000 0 comparator_i32_f32_i32_d0 i k (iotaInDim S2000000 32 0)).2.2

/-- The positions in the order of the ids, ties by position. -/
def idOrder (i : IVec S2000000 32) : IVec S2000000 32 :=
  (Host.sort3 S2000000 0 (comparator_i32_i32_i32_d0) i (iotaInDim S2000000 32 0) (iotaInDim S2000000 32 0)).2.2

/-- The target as the reference's host operations compute it, at an entry. -/
theorem target_vec (a b : FVec Ideal S2000000 .f32) (j : S2000000.Idx) :
    (select (cmpf .ogt (Host.divf b a) (broadcastInDim S2000000 ![] bcast_S_S2000000 (constant S_ .f32 0x3F828F5C#32)))
      (broadcastInDim S2000000 ![] bcast_S_S2000000 (id (constant S_ .f32 0xBF800000#32)))
      (select (cmpf .ogt (Host.divf a b) (broadcastInDim S2000000 ![] bcast_S_S2000000 (constant S_ .f32 0x3F828F5C#32)))
        (broadcastInDim S2000000 ![] bcast_S_S2000000 (id (constant S_ .f32 0x3F800000#32)))
        (broadcastInDim S2000000 ![] bcast_S_S2000000 (constant S_ .f32 0x00000000#32))) : FVec Ideal S2000000 .f32) j
      = target (a j) (b j) := rfl

/-- The difference of two logistics as the reference's host operations compute it, at an entry. -/
theorem depth_vec (a b : FVec Ideal S2000000 .f32) (j : S2000000.Idx) :
    (subf (Host.divf (broadcastInDim S2000000 ![] bcast_S_S2000000 (constant S_ .f32 0x3F800000#32))
        (addf (broadcastInDim S2000000 ![] bcast_S_S2000000 (constant S_ .f32 0x3F800000#32)) (Host.exp (Host.negf a))))
      (Host.divf (broadcastInDim S2000000 ![] bcast_S_S2000000 (constant S_ .f32 0x3F800000#32))
        (addf (broadcastInDim S2000000 ![] bcast_S_S2000000 (constant S_ .f32 0x3F800000#32)) (Host.exp (Host.negf b)))) : FVec Ideal S2000000 .f32) j
      = depth (a j) (b j) := by
  unfold depth Ideal.logistic
  rw [← Ideal.ofBits_one_f32]
  rfl

/-- The log term as the reference's host operations compute it, at an entry. -/
theorem log_vec (d : IVec S2000000 1) (t q : FVec Ideal S2000000 .f32) (j : S2000000.Idx) :
    ((select d (Host.log (addf (broadcastInDim S2000000 ![] bcast_S_S2000000 (constant S_ .f32 0x3F800000#32))
        (Host.exp (mulf (Host.negf t) q))))
      (broadcastInDim S2000000 ![] bcast_S_S2000000 (id (constant S_ .f32 0x00000000#32))) : FVec Ideal S2000000 .f32) j : EReal)
      = Scalar.select (d j) (Ideal.log (1 + Ideal.exp (-(t j : EReal) * q j))) (0 : EReal) := by
  rw [← Ideal.ofBits_one_f32, ← Ideal.ofBits_zero_f32]
  rfl

/-- The square as the reference's host operations compute it, at an entry. -/
theorem sq_vec (d : IVec S2000000 1) (q : FVec Ideal S2000000 .f32) (j : S2000000.Idx) :
    ((select (noti d) (mulf q q)
      (broadcastInDim S2000000 ![] bcast_S_S2000000 (id (constant S_ .f32 0x00000000#32))) : FVec Ideal S2000000 .f32) j : EReal)
      = Scalar.select (d j) (0 : EReal) ((q j : EReal) * q j) := by
  rw [← select_not, ← Ideal.ofBits_zero_f32]
  rfl

/-- A bit as a float, at an entry. -/
theorem count_vec (d : IVec S2000000 1) (j : S2000000.Idx) :
    ((uitofp .f32 d : FVec Ideal S2000000 .f32) j : EReal) = (((d j).toNat : ℝ) : EReal) := rfl

/-- A bit's complement as a float, at an entry. -/
theorem rest_vec (d : IVec S2000000 1) (j : S2000000.Idx) :
    ((uitofp .f32 (noti d) : FVec Ideal S2000000 .f32) j : EReal) = ((1 - ((d j).toNat : ℝ) : ℝ) : EReal) := by
  rw [← toNat_not]
  rfl

/-- The two quotients added, as the reference's host operations compute it. -/
theorem quotients_apply (x y z w : FVec Ideal S_ .f32) (i : S1x1.Idx) :
    (shapeCast S1x1 (addf (Host.divf x (maximumf y (constant S_ .f32 0x3F800000#32)))
      (Host.divf z (maximumf w (constant S_ .f32 0x3F800000#32)))) shapeCasts_S_S1x1 i : EReal)
      = Ideal.div (x ix0) (max (y ix0) 1) + Ideal.div (z ix0) (max (w ix0) 1) := by
  rw [shapeCast_apply _ shapeCasts_S_S1x1 i ix0 (by
    have h := (S1x1.rowMajor i).isLt; have h' := (S_.rowMajor ix0).isLt
    have e : S1x1.numel = 1 := rfl
    have e' : S_.numel = 1 := rfl
    omega), ← Ideal.ofBits_one_f32]
  rfl

section Pairs

variable (σ ρ : Equiv.Perm (Fin 2000000))
  (hσ : ∀ p : Fin 2000000, idOrder (ids V0) (ix1 p) = BitVec.ofNat 32 (σ p).val)
  (hρ : ∀ p : Fin 2000000, randOrder (ids V0) (keys V0) (ix1 p) = BitVec.ofNat 32 (ρ p).val)

include hσ hρ

/-- The position entry `i` is paired with. -/
theorem partner_apply (i : Fin 2000000) : (res_main_v10 V0 : IVec S2000000 32) (ix1 i) = BitVec.ofNat 32 (ρ (σ.symm i)).val := by
  unfold res_main_v10
  refine scatter_perm scatter_S2000000_S2000000x1_S2000000_n_0_0_1 rfl rfl rfl (by norm_num) _ _ _ σ ρ (fun p => ?_) hρ i
  exact wrap_col _ _ _ _ p _ (by have := (σ p).isLt; omega) (hσ p) rfl

/-- A table taken at the partners. -/
theorem partner_take (tbl : FVec Ideal S2000000 .f32) (col : IVec S2000000x1 32)
    (hcol : col = broadcastInDim S2000000x1 ![0] bcast_S2000000_S2000000x1_0 (select (cmpi .slt (res_main_v10 V0) (broadcastInDim S2000000 ![] bcast_S_S2000000 (constantI S_ 32 0#32))) (addi (res_main_v10 V0) (broadcastInDim S2000000 ![] bcast_S_S2000000 (constantI S_ 32 2000000#32))) (res_main_v10 V0)))
    (i : Fin 2000000) :
    select (Host.reduce IntOp.andi
      (andi (cmpi .sge col (broadcastInDim S2000000x1 ![] bcast_S_S2000000x1 (constantI S_ 32 0#32)))
        (cmpi .sle col (broadcastInDim S2000000x1 ![0, 1] bcast_S1x1_S2000000x1_0_1
          (broadcastInDim S1x1 ![1] bcast_S1_S1x1_1 (constantI S1 32 1999999#32)))))
      (constantI S_ 1 1#1) reducesTo_S2000000x1_S2000000_d1 h_S_)
      (Host.gather gather_S2000000_S2000000x1_S2000000_n_0_n_n_0_1_1 tbl col)
      (broadcastInDim S2000000 ![] bcast_S_S2000000 (constant S_ .f32 0x7FC00000#32)) (ix1 i) = tbl (ix1 (ρ (σ.symm i))) := by
  refine take_full gather_S2000000_S2000000x1_S2000000_n_0_n_n_0_1_1 rfl rfl rfl rfl (by norm_num) tbl col _ _
    (fun _ => rfl) (fun _ => rfl) (fun p => ρ (σ.symm p)) (fun p => ?_) _ _ _ rfl _ i
  rw [hcol]
  exact wrap_col _ _ _ _ p _ (by have := (ρ (σ.symm p)).isLt; omega) (partner_apply V0 σ ρ hσ hρ p) rfl

/-- The partner's ranking entry. -/
theorem v11_apply (i : Fin 2000000) : (res_main_v11 V0 : FVec Ideal S2000000 .f32) (ix1 i) = ranks V0 (ix1 (ρ (σ.symm i))) := by
  unfold res_main_v11
  exact partner_take V0 σ ρ hσ hρ (ranks V0) (res_main_call2_v5 V0) rfl i

/-- The pair's target. -/
theorem v20_apply (i : Fin 2000000) : (res_main_v20 V0 : FVec Ideal S2000000 .f32) (ix1 i)
    = target (ranks V0 (ix1 i)) (ranks V0 (ix1 (ρ (σ.symm i)))) := by
  rw [← v11_apply V0 σ ρ hσ hρ i]
  unfold res_main_v20
  exact target_vec (ranks V0) (res_main_v11 V0) (ix1 i)

/-- The pair's difference of logistics. -/
theorem v34_apply (i : Fin 2000000) : (res_main_v34 V0 : FVec Ideal S2000000 .f32) (ix1 i)
    = depth (scores V0 (ix1 i)) (scores V0 (ix1 (ρ (σ.symm i)))) := by
  have h := partner_take V0 σ ρ hσ hρ (scores V0) (res_main_call5_v5 V0) rfl i
  rw [← h]
  unfold res_main_v34
  exact depth_vec (scores V0) _ (ix1 i)

/-- Whether the pair has a target. -/
theorem v36_apply (i : Fin 2000000) : (res_main_v36 V0 : IVec S2000000 1) (ix1 i)
    = differ (ranks V0 (ix1 i)) (ranks V0 (ix1 (ρ (σ.symm i)))) := by
  unfold differ
  rw [← v20_apply V0 σ ρ hσ hρ i]
  rfl

end Pairs

/-- A sum over the entries and their partners, over the places of the two orders. -/
theorem sum_partner (σ ρ : Equiv.Perm (Fin 2000000)) (f : Fin 2000000 → Fin 2000000 → EReal) :
    ∑ i, f i (ρ (σ.symm i)) = ∑ k, f (σ k) (ρ k) := by
  rw [← Equiv.sum_comp σ]
  exact Finset.sum_congr rfl fun k _ => by rw [Equiv.symm_apply_apply]

/-- The host's sum of a vector from zero. -/
theorem sum_apply (v : FVec Ideal S2000000 .f32) (j : S_.Idx) :
    (Host.reduceAdd v (constant S_ .f32 0x00000000#32) reducesTo_S2000000_S_d0 h_S_ j : EReal) = ∑ i : Fin 2000000, (v (ix1 i) : EReal) := by
  rw [hostReduceAdd_apply]
  refine (Ideal.hostReduceAdd_r1_a0 _ _ _ _).trans ?_
  show Ideal.ofBits .f32 0x00000000#32 + _ = _
  rw [Ideal.ofBits_zero_f32, zero_add]
  rfl

/-- What the reference leaves in its result. -/
def result : FVec Ideal S1x1 .f32 :=
  shapeCast S1x1
    (addf (Host.divf (Host.reduceAdd (select (res_main_v36 V0) (Host.log (addf (broadcastInDim S2000000 ![] bcast_S_S2000000 (constant S_ .f32 0x3F800000#32)) (Host.exp (mulf (Host.negf (res_main_v20 V0)) (res_main_v34 V0))))) (broadcastInDim S2000000 ![] bcast_S_S2000000 (id (constant S_ .f32 0x00000000#32)))) (constant S_ .f32 0x00000000#32) reducesTo_S2000000_S_d0 h_S_)
      (maximumf (Host.reduceAdd (uitofp .f32 (res_main_v36 V0)) (constant S_ .f32 0x00000000#32) reducesTo_S2000000_S_d0 h_S_) (constant S_ .f32 0x3F800000#32)))
      (Host.divf (Host.reduceAdd (select (noti (res_main_v36 V0)) (mulf (res_main_v34 V0) (res_main_v34 V0)) (broadcastInDim S2000000 ![] bcast_S_S2000000 (id (constant S_ .f32 0x00000000#32)))) (constant S_ .f32 0x00000000#32) reducesTo_S2000000_S_d0 h_S_)
      (maximumf (Host.reduceAdd (uitofp .f32 (noti (res_main_v36 V0))) (constant S_ .f32 0x00000000#32) reducesTo_S2000000_S_d0 h_S_) (constant S_ .f32 0x3F800000#32)))) shapeCasts_S_S1x1

/-- The reference's one word: the loss of the three sums over the pairs of positions the two orders put in the same place. -/
theorem result_apply (σ ρ : Equiv.Perm (Fin 2000000))
    (hσ : ∀ p : Fin 2000000, idOrder (ids V0) (ix1 p) = BitVec.ofNat 32 (σ p).val)
    (hρ : ∀ p : Fin 2000000, randOrder (ids V0) (keys V0) (ix1 p) = BitVec.ofNat 32 (ρ p).val) (i : S1x1.Idx) :
    (result V0 i : EReal) = loss
      (∑ k : Fin 2000000, logTerm (ranks V0 (ix1 (σ k))) (ranks V0 (ix1 (ρ k))) (scores V0 (ix1 (σ k))) (scores V0 (ix1 (ρ k))))
      (∑ k : Fin 2000000, sqTerm (ranks V0 (ix1 (σ k))) (ranks V0 (ix1 (ρ k))) (scores V0 (ix1 (σ k))) (scores V0 (ix1 (ρ k))))
      (∑ k : Fin 2000000, ((count (ranks V0 (ix1 (σ k))) (ranks V0 (ix1 (ρ k))) : ℝ) : EReal)) := by
  unfold result
  refine (quotients_apply _ _ _ _ i).trans ?_
  rw [← sum_partner σ ρ (fun a b => logTerm (ranks V0 (ix1 a)) (ranks V0 (ix1 b)) (scores V0 (ix1 a)) (scores V0 (ix1 b))),
    ← sum_partner σ ρ (fun a b => sqTerm (ranks V0 (ix1 a)) (ranks V0 (ix1 b)) (scores V0 (ix1 a)) (scores V0 (ix1 b))),
    ← sum_partner σ ρ (fun a b => ((count (ranks V0 (ix1 a)) (ranks V0 (ix1 b)) : ℝ) : EReal))]
  unfold loss
  refine congr (congrArg (fun a b : EReal => a + b) (congr (congrArg Ideal.div ?_) (congrArg (fun s : EReal => max s 1) ?_)))
    (congr (congrArg Ideal.div ?_) (congrArg (fun s : EReal => max s 1) ?_))
  · refine (sum_apply _ _).trans (Finset.sum_congr rfl fun i _ => ?_)
    refine (log_vec (res_main_v36 V0) (res_main_v20 V0) (res_main_v34 V0) (ix1 i)).trans ?_
    rw [v36_apply V0 σ ρ hσ hρ, v20_apply V0 σ ρ hσ hρ, v34_apply V0 σ ρ hσ hρ]
    rfl
  · refine (sum_apply _ _).trans (Finset.sum_congr rfl fun i _ => ?_)
    refine (count_vec (res_main_v36 V0) (ix1 i)).trans ?_
    rw [v36_apply V0 σ ρ hσ hρ]
    rfl
  · refine (sum_apply _ _).trans (Finset.sum_congr rfl fun i _ => ?_)
    refine (sq_vec (res_main_v36 V0) (res_main_v34 V0) (ix1 i)).trans ?_
    rw [v36_apply V0 σ ρ hσ hρ, v34_apply V0 σ ρ hσ hρ]
    rfl
  · refine (sum_apply _ _).trans ?_
    have h := count_rest (N := 2000000) fun i => count (ranks V0 (ix1 i)) (ranks V0 (ix1 (ρ (σ.symm i))))
    rw [show ((2000000 : ℕ) : ℝ) = 2000000 by norm_num] at h
    refine Eq.trans (Finset.sum_congr rfl fun i _ => ?_) h
    refine (rest_vec (res_main_v36 V0) (ix1 i)).trans ?_
    rw [v36_apply V0 σ ρ hσ hρ]
    rfl

end Cert.ReferenceIdeal.Loss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Run
public import proofs.«01_k».proof.Proof.Ideal.Run
public import proofs.«01_k».proof.Proof.Ideal.Host
public import proofs.«01_k».proof.Proof.Ideal.Value
public import proofs.«01_k».proof.Proof.Ideal.Blocks
public import proofs.«01_k».proof.Proof.Ideal.Taken
public import proofs.«01_k».proof.Proof.Ideal.Total
public import proofs.«01_k».proof.Proof.Math.Scalar
public import proofs.«01_k».proof.Proof.Math.Tables
public import proofs.«01_k».proof.Proof.Ref.Value
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, keeps its four arguments, and, having no semaphore, ends with every counter at zero. -/
theorem reference_frame : quiescent_ReferenceIdeal (hReferenceIdeal := Cert.ReferenceIdeal.Gen.facts) := fun m g _ =>
  (θ_run Cert.ReferenceIdeal.defs _ _).mono (fun r h => ⟨fun c => (h c).2,
    Idealize.ShloMosaic.sem_eq_zero_of_no_sems (by decide) r.2⟩) (Cert.ReferenceIdeal.Value.run m g)

open Cert.LossMath in
/-- From the same arguments the reference's result is what the kernel's last point stores: the two sort the same ids the
    same way, so both sum the same terms over the same pairs of positions. -/
theorem results_eq (m : (ℓ : Loc Cert.KernelIdeal.nD Cert.KernelIdeal.τ Cert.KernelIdeal.sig) → Buf (Elt Ideal) ℓ)
    (c : Dev Cert.KernelIdeal.nD) (V0 : Valuation Cert.ReferenceIdeal.τ Cert.ReferenceIdeal.sig (Elt Ideal))
    (h0 : Cert.ReferenceIdeal.Loss.ranks V0 = Cert.KernelIdeal.Loss.ranks m c)
    (h1 : Cert.ReferenceIdeal.Loss.scores V0 = Cert.KernelIdeal.Loss.scores m c)
    (h2 : Cert.ReferenceIdeal.Loss.keys V0 = Cert.KernelIdeal.Loss.keys m c)
    (h3 : Cert.ReferenceIdeal.Loss.ids V0 = Cert.KernelIdeal.Loss.ids m c) :
    Cert.ReferenceIdeal.Loss.result V0 = Cert.KernelIdeal.Loss.out m c := by
  obtain ⟨σ, hσ⟩ := sort_perm (N := 2000000) Cert.KernelIdeal.comparator_i32_i32_i32_d0 (Cert.KernelIdeal.Loss.ids m c)
    (iotaInDim Cert.KernelIdeal.S2000000 32 0) 0
  obtain ⟨ρ, hρ⟩ := sort_perm (N := 2000000) (Cert.KernelIdeal.comparator_i32_f32_i32_d0 (F := Ideal)) (Cert.KernelIdeal.Loss.ids m c)
    (Cert.KernelIdeal.Loss.keys m c) 0
  funext i
  refine (Cert.ReferenceIdeal.Loss.result_apply V0 σ ρ (fun p => ?_) (fun p => ?_) i).trans ?_
  · rw [h3]; exact hσ p
  · rw [h3, h2]; exact hρ p
  · rw [h0, h1]
    exact (Cert.KernelIdeal.Loss.out_apply c m σ ρ hσ hρ i).symm

/-- At the extended reals the kernel and the reference, from the same arguments, end with the same result, and each
    keeps its arguments. -/
theorem algebraic : algebraic_KernelIdeal_ReferenceIdeal (hKernelIdeal := Cert.KernelIdeal.Gen.facts)
    (hReferenceIdeal := Cert.ReferenceIdeal.Gen.facts) := fun m g m' g' _ hargs =>
  ⟨fun c => Cert.KernelIdeal.Loss.out m c,
    (θ_run Cert.KernelIdeal.defs _ _).mono
      (fun _ h c => ⟨((h.1.1 c).1 4).trans (Cert.KernelIdeal.Loss.array_out m c), h.2.1 c⟩)
      (θ_run_and (Cert.KernelIdeal.Loss.run_main m g) (Cert.KernelIdeal.Loss.frame m g)),
    (θ_run Cert.ReferenceIdeal.defs _ _).mono
      (fun _ h c => ⟨(h c).1.trans (results_eq m c (StableHlo.launchContents m' c) (hargs c).1 (hargs c).2.1 (hargs c).2.2.1 (hargs c).2.2.2),
        (h c).2⟩)
      (Cert.ReferenceIdeal.Value.run m' g')⟩

/-- Everything claimed. -/
theorem claim : Cert.Claim := ⟨Cert.Kernel.Gen.facts, Cert.KernelIdeal.Gen.facts, Cert.ReferenceIdeal.Gen.facts,
  fun m g _ => Cert.Kernel.Loss.frame m g, fun m g _ => Cert.KernelIdeal.Loss.frame m g, reference_frame, trivial, algebraic⟩

end Cert.Proof

end
